-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_terms [hPre_finite_terms : Cert.Pre_finite_terms.Facts] (m : (ℓ : Loc Cert.KernelIdeal.nD Cert.KernelIdeal.τ Cert.KernelIdeal.sig) → Buf (Elt Ideal) ℓ) : Prop :=
  ∀ c : Dev Cert.KernelIdeal.nD,
    (Cert.Pre_finite_terms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_terms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_terms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_terms [hPre_finite_terms : Cert.Pre_finite_terms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_terms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_terms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_terms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_terms [hKernelIdeal : Cert.KernelIdeal.Facts] [hPre_finite_terms : Cert.Pre_finite_terms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_terms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_terms [hReferenceIdeal : Cert.ReferenceIdeal.Facts] [hPre_finite_terms : Cert.Pre_finite_terms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_terms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_terms [hKernelIdeal : Cert.KernelIdeal.Facts] [hReferenceIdeal : Cert.ReferenceIdeal.Facts] [hPre_finite_terms : Cert.Pre_finite_terms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_terms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "q_scale" .f32 0x3E0293EE#32 (((Real.sqrt 128)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "log2e" .f32 0x3FB8AA3B#32 (((Real.log 2)⁻¹ : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_terms : Cert.Pre_finite_terms.Facts),
    quiescent_Kernel (hKernel := hKernel)
    ∧ quiescent_KernelIdeal (hKernelIdeal := hKernelIdeal)
    ∧ quiescent_KernelIdeal_pre_finite_terms (hKernelIdeal := hKernelIdeal) (hPre_finite_terms := hPre_finite_terms)
    ∧ quiescent_ReferenceIdeal (hReferenceIdeal := hReferenceIdeal)
    ∧ quiescent_ReferenceIdeal_pre_finite_terms (hReferenceIdeal := hReferenceIdeal) (hPre_finite_terms := hPre_finite_terms)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_terms (hKernelIdeal := hKernelIdeal) (hReferenceIdeal := hReferenceIdeal) (hPre_finite_terms := hPre_finite_terms)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Pre_finite_terms.lean ====
abbrev S8x4096x2048 : Shape := ⟨3, ![8, 4096, 2048]⟩
abbrev S2048 : Shape := ⟨1, ![2048]⟩
abbrev S2048x4096 : Shape := ⟨2, ![2048, 4096]⟩
abbrev S128 : Shape := ⟨1, ![128]⟩
abbrev S1x2048 : Shape := ⟨2, ![1, 2048]⟩
abbrev S1x2048x2048 : Shape := ⟨3, ![1, 2048, 2048]⟩
abbrev S1x128 : Shape := ⟨2, ![1, 128]⟩
abbrev S1x16x320 : Shape := ⟨3, ![1, 16, 320]⟩
abbrev S_ : Shape := ⟨0, ![]⟩

class Facts : Prop where
  bcast_S_S128 : S_.BroadcastsInDim S128 (![] : Fin 0 → Fin S128.rank)
  bcast_S_S1x128 : S_.BroadcastsInDim S1x128 (![] : Fin 0 → Fin S1x128.rank)
  bcast_S_S1x16x320 : S_.BroadcastsInDim S1x16x320 (![] : Fin 0 → Fin S1x16x320.rank)

variable [Facts]

def fn {F : FTy → Type} [FloatOps F] (main_arg0 : FVec F S8x4096x2048 .f32) (main_arg1 : FVec F S2048 .f32) (main_arg2 : FVec F S2048x4096 .f32) (main_arg3 : FVec F S128 .f32) (main_arg4 : FVec F S1x2048 .f32) (main_arg5 : FVec F S1x2048x2048 .f32) (main_arg6 : FVec F S1x128 .f32) (main_arg7 : FVec F S1x16x320 .f32) (main_arg8 : FVec F S1x2048x2048 .f32) : IVec S128 1 × IVec S1x128 1 × IVec S1x16x320 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S1x128 .f32 := Host.absf main_arg6
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x16x320 .f32 := Host.absf main_arg7
  let main_cst_1 : FVec F S_ .f32 := constant S_ .f32 0x7F800000#32
  let main_v7 : FVec F S1x16x320 .f32 := broadcastInDim S1x16x320 ![] bcast_S_S1x16x320 main_cst_1
  let main_v8 : IVec S1x16x320 1 := cmpf .olt main_v6 main_v7
  (main_v2, main_v5, main_v8)
-- ==== Kernel.lean ====
abbrev S8x4096x2048 : Shape := ⟨3, ![8, 4096, 2048]⟩
abbrev S2048 : Shape := ⟨1, ![2048]⟩
abbrev S2048x4096 : Shape := ⟨2, ![2048, 4096]⟩
abbrev S128 : Shape := ⟨1, ![128]⟩
abbrev S1x2048 : Shape := ⟨2, ![1, 2048]⟩
abbrev S1x2048x2048 : Shape := ⟨3, ![1, 2048, 2048]⟩
abbrev S1x128 : Shape := ⟨2, ![1, 128]⟩
abbrev S1x16x320 : Shape := ⟨3, ![1, 16, 320]⟩
abbrev S32768x2048 : Shape := ⟨2, ![32768, 2048]⟩
abbrev S2048x2048 : Shape := ⟨2, ![2048, 2048]⟩
abbrev S2x2048 : Shape := ⟨2, ![2, 2048]⟩
abbrev S2x128 : Shape := ⟨2, ![2, 128]⟩
abbrev S32768x6144 : Shape := ⟨2, ![32768, 6144]⟩
abbrev S512x2048 : Shape := ⟨2, ![512, 2048]⟩
abbrev S512x6144 : Shape := ⟨2, ![512, 6144]⟩
abbrev S2x512x2048 : Shape := ⟨3, ![2, 512, 2048]⟩
abbrev S512 : Shape := ⟨1, ![512]⟩
abbrev S512x1 : Shape := ⟨2, ![512, 1]⟩
abbrev S1x512x2048 : Shape := ⟨3, ![1, 512, 2048]⟩
abbrev S512x128 : Shape := ⟨2, ![512, 128]⟩
abbrev S8x4096x6144 : Shape := ⟨3, ![8, 4096, 6144]⟩
abbrev S16x320 : Shape := ⟨2, ![16, 320]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S16x768x256 : Shape := ⟨3, ![16, 768, 256]⟩
abbrev S1x1x1024 : Shape := ⟨3, ![1, 1, 1024]⟩
abbrev S1x768x256 : Shape := ⟨3, ![1, 768, 256]⟩
abbrev S256x1024 : Shape := ⟨2, ![256, 1024]⟩
abbrev S1x1024 : Shape := ⟨2, ![1, 1024]⟩
abbrev S256x256 : Shape := ⟨2, ![256, 256]⟩
abbrev S1x256x256 : Shape := ⟨3, ![1, 256, 256]⟩
abbrev S1x4096x128 : Shape := ⟨3, ![1, 4096, 128]⟩
abbrev S144x4096 : Shape := ⟨2, ![144, 4096]⟩
abbrev S768x256 : Shape := ⟨2, ![768, 256]⟩
abbrev S1x256x128 : Shape := ⟨3, ![1, 256, 128]⟩
abbrev S256x128 : Shape := ⟨2, ![256, 128]⟩
abbrev S128x256 : Shape := ⟨2, ![128, 256]⟩
abbrev S16x4096 : Shape := ⟨2, ![16, 4096]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S144x256 : Shape := ⟨2, ![144, 256]⟩
abbrev S144x512 : Shape := ⟨2, ![144, 512]⟩
abbrev S512x256 : Shape := ⟨2, ![512, 256]⟩
abbrev S144x768 : Shape := ⟨2, ![144, 768]⟩
abbrev S1024x2048 : Shape := ⟨2, ![1024, 2048]⟩

abbrev nBuf : Space → Nat
  | .hbm => 59
  | .vmem => 35
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S1x2048, .f32⟩
  | .hbm, ⟨5, _⟩ => ⟨S1x2048x2048, .f32⟩
  | .hbm, ⟨6, _⟩ => ⟨S1x128, .f32⟩
  | .hbm, ⟨7, _⟩ => ⟨S1x16x320, .f32⟩
  | .hbm, ⟨8, _⟩ => ⟨S1x2048x2048, .f32⟩
  | .hbm, ⟨9, _⟩ => ⟨S32768x2048, .f32⟩
  | .hbm, ⟨10, _⟩ => ⟨S2048, .f32⟩
  | .hbm, ⟨11, _⟩ => ⟨S2048x4096, .bf16⟩
  | .hbm, ⟨12, _⟩ => ⟨S2048x2048, .f32⟩
  | .hbm, ⟨13, _⟩ => ⟨S2048x2048, .bf16⟩
  | .hbm, ⟨14, _⟩ => ⟨S128, .f32⟩
  | .hbm, ⟨15, _⟩ => ⟨S1x2048, .f32⟩
  | .hbm, ⟨16, _⟩ => ⟨S1x2048, .f32⟩
  | .hbm, ⟨17, _⟩ => ⟨S2x2048, .f32⟩
  | .hbm, ⟨18, _⟩ => ⟨S1x128, .f32⟩
  | .hbm, ⟨19, _⟩ => ⟨S1x128, .f32⟩
  | .hbm, ⟨20, _⟩ => ⟨S2x128, .f32⟩
  | .hbm, ⟨21, _⟩ => ⟨S32768x6144, .bf16⟩
  | .hbm, ⟨22, _⟩ => ⟨S8x4096x6144, .bf16⟩
  | .hbm, ⟨23, _⟩ => ⟨S16x320, .f32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1024x1, .i32⟩
  | .hbm, ⟨50, _⟩ => ⟨S16x1024, .f32⟩
  | .hbm, ⟨51, _⟩ => ⟨S16x1x1024, .f32⟩
  | .hbm, ⟨52, _⟩ => ⟨S16x768x256, .f32⟩
  | .hbm, ⟨53, _⟩ => ⟨S8x4096x2048, .bf16⟩
  | .hbm, ⟨54, _⟩ => ⟨S32768x2048, .bf16⟩
  | .hbm, ⟨55, _⟩ => ⟨S2048x2048, .f32⟩
  | .hbm, ⟨56, _⟩ => ⟨S2048x2048, .bf16⟩
  | .hbm, ⟨57, _⟩ => ⟨S32768x2048, .f32⟩
  | .hbm, ⟨58, _⟩ => ⟨S8x4096x2048, .f32⟩
  | .local _ .vmem, ⟨0, _⟩ => ⟨S512x2048, .f32⟩
  | .local _ .vmem, ⟨1, _⟩ => ⟨S512x2048, .f32⟩
  | .local _ .vmem, ⟨2, _⟩ => ⟨S2x2048, .f32⟩
  | .local _ .vmem, ⟨3, _⟩ => ⟨S2x128, .f32⟩
  | .local _ .vmem, ⟨4, _⟩ => ⟨S2048x4096, .bf16⟩
  | .local _ .vmem, ⟨5, _⟩ => ⟨S2048x2048, .bf16⟩
  | .local _ .vmem, ⟨6, _⟩ => ⟨S512x6144, .bf16⟩
  | .local _ .vmem, ⟨7, _⟩ => ⟨S512x6144, .bf16⟩
  | .local _ .vmem, ⟨8, _⟩ => ⟨S2x512x2048, .bf16⟩
  | .local _ .vmem, ⟨9, _⟩ => ⟨S1x1x1024, .f32⟩
  | .local _ .vmem, ⟨10, _⟩ => ⟨S1x1x1024, .f32⟩
  | .local _ .vmem, ⟨11, _⟩ => ⟨S1x768x256, .f32⟩
  | .local _ .vmem, ⟨12, _⟩ => ⟨S1x768x256, .f32⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x768x256, .f32⟩
  | .local _ .vmem, ⟨20, _⟩ => ⟨S1x768x256, .f32⟩
  | .local _ .vmem, ⟨21, _⟩ => ⟨S1x4096x128, .bf16⟩
  | .local _ .vmem, ⟨22, _⟩ => ⟨S1x4096x128, .bf16⟩
  | .local _ .vmem, ⟨23, _⟩ => ⟨S144x4096, .bf16⟩
  | .local _ .vmem, ⟨24, _⟩ => ⟨S768x256, .f32⟩
  | .local _ .vmem, ⟨25, _⟩ => ⟨S768x256, .f32⟩
  | .local _ .vmem, ⟨26, _⟩ => ⟨S768x256, .bf16⟩
  | .local _ .vmem, ⟨27, _⟩ => ⟨S768x256, .bf16⟩
  | .local _ .vmem, ⟨28, _⟩ => ⟨S1024x2048, .f32⟩
  | .local _ .vmem, ⟨29, _⟩ => ⟨S1024x2048, .f32⟩
  | .local _ .vmem, ⟨30, _⟩ => ⟨S1024x2048, .bf16⟩
  | .local _ .vmem, ⟨31, _⟩ => ⟨S1024x2048, .bf16⟩
  | .local _ .vmem, ⟨32, _⟩ => ⟨S2048x2048, .bf16⟩
  | .local _ .vmem, ⟨33, _⟩ => ⟨S1024x2048, .f32⟩
  | .local _ .vmem, ⟨34, _⟩ => ⟨S1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc2_scratch1 : Ref sig .tc := ⟨.vmem, 24, rfl⟩
abbrev cc2_scratch2 : Ref sig .tc := ⟨.vmem, 25, rfl⟩
abbrev cc2_scratch3 : Ref sig .tc := ⟨.vmem, 26, rfl⟩
abbrev cc2_scratch4 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x768x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 16], ![false, false]⟩

def cc2_transform_0 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x768x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x4096x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2048x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== KernelIdeal.lean ====
variable {F : FTy → Type} [FloatOps F] [Named F]
def κ : String → Option EReal := fun
  | "log2e" => some (((Real.log 2)⁻¹ : ℝ) : EReal)
  | "q_scale" => some (((Real.sqrt 128)⁻¹ * (Real.log 2)⁻¹ : ℝ) : EReal)
  | _ => none
-- ==== ReferenceIdeal.lean ====
abbrev S8x4096x2048 : Shape := ⟨3, ![8, 4096, 2048]⟩
abbrev S2048 : Shape := ⟨1, ![2048]⟩
abbrev S2048x4096 : Shape := ⟨2, ![2048, 4096]⟩
abbrev S128 : Shape := ⟨1, ![128]⟩
abbrev S1x2048 : Shape := ⟨2, ![1, 2048]⟩
abbrev S1x2048x2048 : Shape := ⟨3, ![1, 2048, 2048]⟩
abbrev S1x128 : Shape := ⟨2, ![1, 128]⟩
abbrev S1x16x320 : Shape := ⟨3, ![1, 16, 320]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x4096 : Shape := ⟨3, ![8, 4096, 4096]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S2048x2048 : Shape := ⟨2, ![2048, 2048]⟩
abbrev S4096x4096 : Shape := ⟨2, ![4096, 4096]⟩
abbrev S16x320 : Shape := ⟨2, ![16, 320]⟩
abbrev S4096x4096x1 : Shape := ⟨3, ![4096, 4096, 1]⟩
abbrev S16x4096x4096 : Shape := ⟨3, ![16, 4096, 4096]⟩
abbrev S8x16x4096x4096 : Shape := ⟨4, ![8, 16, 4096, 4096]⟩
abbrev S1x16x4096x4096 : Shape := ⟨4, ![1, 16, 4096, 4096]⟩
abbrev S1x1x4096x4096 : Shape := ⟨4, ![1, 1, 4096, 4096]⟩
abbrev S8x16x4096 : Shape := ⟨3, ![8, 16, 4096]⟩
abbrev S8x16x4096x1 : Shape := ⟨4, ![8, 16, 4096, 1]⟩
abbrev S8x16x128x4096 : Shape := ⟨4, ![8, 16, 128, 4096]⟩

abbrev nBuf : Space → Nat
  | .hbm => 153
  | .vmem => 0
  | .smem => 0
  | _ => 0

abbrev hbmTy0_0 (i : Nat) : BufTy := match i % 128 with
  | 0 => ⟨S8x4096x2048, .f32⟩
  | 1 => ⟨S2048, .f32⟩
  | 2 => ⟨S2048x4096, .f32⟩
  | 3 => ⟨S128, .f32⟩
  | 4 => ⟨S1x2048, .f32⟩
  | 5 => ⟨S1x2048x2048, .f32⟩
  | 6 => ⟨S1x128, .f32⟩
  | 7 => ⟨S1x16x320, .f32⟩
  | 8 => ⟨S1x2048x2048, .f32⟩
  | 9 => ⟨S8x4096x2048, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x2048, .f32⟩
  | 21 => ⟨S8x4096x2048, .f32⟩
  | 22 => ⟨S1x1x2048, .f32⟩
  | 23 => ⟨S8x4096x2048, .f32⟩
  | 24 => ⟨S8x4096x2048, .f32⟩
  | 25 => ⟨S8x4096x4096, .f32⟩
  | 26 => ⟨S8x4096x2048, .f32⟩
  | 27 => ⟨S8x4096x16x128, .f32⟩
  | 28 => ⟨S8x4096x16x128, .f32⟩
  | 29 => ⟨S_, .f32⟩
  | 30 => ⟨S8x4096x16, .f32⟩
  | 31 => ⟨S8x4096x16x1, .f32⟩
  | 32 => ⟨S_, .f32⟩
  | 33 => ⟨S8x4096x16x1, .f32⟩
  | 34 => ⟨S8x4096x16x1, .f32⟩
  | 35 => ⟨S_, .f32⟩
  | 36 => ⟨S8x4096x16x1, .f32⟩
  | 37 => ⟨S8x4096x16x1, .f32⟩
  | 38 => ⟨S8x4096x16x1, .f32⟩
  | 39 => ⟨S8x4096x16x128, .f32⟩
  | 40 => ⟨S8x4096x16x128, .f32⟩
  | 41 => ⟨S1x1x1x128, .f32⟩
  | 42 => ⟨S8x4096x16x128, .f32⟩
  | 43 => ⟨S8x4096x16x128, .f32⟩
  | 44 => ⟨S8x4096x2048, .f32⟩
  | 45 => ⟨S8x4096x16x128, .f32⟩
  | 46 => ⟨S2048, .f32⟩
  | 47 => ⟨S8x4096x2048, .f32⟩
  | 48 => ⟨S_, .f32⟩
  | 49 => ⟨S8x4096, .f32⟩
  | 50 => ⟨S8x4096x1, .f32⟩
  | 51 => ⟨S_, .f32⟩
  | 52 => ⟨S8x4096x1, .f32⟩
  | 53 => ⟨S8x4096x1, .f32⟩
  | 54 => ⟨S_, .f32⟩
  | 55 => ⟨S8x4096x1, .f32⟩
  | 56 => ⟨S8x4096x1, .f32⟩
  | 57 => ⟨S8x4096x1, .f32⟩
  | 58 => ⟨S8x4096x2048, .f32⟩
  | 59 => ⟨S8x4096x2048, .f32⟩
  | 60 => ⟨S1x1x2048, .f32⟩
  | 61 => ⟨S8x4096x2048, .f32⟩
  | 62 => ⟨S8x4096x2048, .f32⟩
  | 63 => ⟨S2048x2048, .f32⟩
  | 64 => ⟨S8x4096x2048, .f32⟩
  | 65 => ⟨S8x4096x16x128, .f32⟩
  | 66 => ⟨S128, .f32⟩
  | 67 => ⟨S8x4096x16x128, .f32⟩
  | 68 => ⟨S_, .f32⟩
  | 69 => ⟨S8x4096x16, .f32⟩
  | 70 => ⟨S8x4096x16x1, .f32⟩
  | 71 => ⟨S_, .f32⟩
  | 72 => ⟨S8x4096x16x1, .f32⟩
  | 73 => ⟨S8x4096x16x1, .f32⟩
  | 74 => ⟨S_, .f32⟩
  | 75 => ⟨S8x4096x16x1, .f32⟩
  | 76 => ⟨S8x4096x16x1, .f32⟩
  | 77 => ⟨S8x4096x16x1, .f32⟩
  | 78 => ⟨S8x4096x16x128, .f32⟩
  | 79 => ⟨S8x4096x16x128, .f32⟩
  | 80 => ⟨S1x1x1x128, .f32⟩
  | 81 => ⟨S8x4096x16x128, .f32⟩
  | 82 => ⟨S8x4096x16x128, .f32⟩
  | 83 => ⟨S4096x4096, .i32⟩
  | 84 => ⟨S4096x4096, .i32⟩
  | 85 => ⟨S16x320, .f32⟩
  | 86 => ⟨S4096x4096, .i32⟩
  | 87 => ⟨S_, .i32⟩
  | 88 => ⟨S_, .i32⟩
  | 89 => ⟨S_, .i32⟩
  | 90 => ⟨S4096x4096, .i32⟩
  | 91 => ⟨S4096x4096, .i32⟩
  | 92 => ⟨S_, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S_, .i32⟩
  | 99 => ⟨S4096x4096, .i32⟩
  | 100 => ⟨S4096x4096, .i1⟩
  | 101 => ⟨S_, .i32⟩
  | 102 => ⟨S4096x4096, .i32⟩
  | 103 => ⟨S4096x4096, .i32⟩
  | 104 => ⟨S4096x4096, .i32⟩
  | 105 => ⟨S4096x4096x1, .i32⟩
  | 106 => ⟨S16x4096x4096, .f32⟩
  | 107 => ⟨S_, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S4096x4096, .i1⟩
  | 114 => ⟨S_, .i32⟩
  | 115 => ⟨S4096x4096, .i32⟩
  | 116 => ⟨S4096x4096, .i32⟩
  | 117 => ⟨S4096x4096, .i1⟩
  | 118 => ⟨S4096x4096, .i1⟩
  | 119 => ⟨S8x16x4096x4096, .f32⟩
  | 120 => ⟨S_, .f32⟩
  | 121 => ⟨S_, .f32⟩
  | 122 => ⟨S8x16x4096x4096, .f32⟩
  | 123 => ⟨S8x16x4096x4096, .f32⟩
  | 124 => ⟨S1x16x4096x4096, .f32⟩
  | 125 => ⟨S8x16x4096x4096, .f32⟩
  | 126 => ⟨S8x16x4096x4096, .f32⟩
  | 127 => ⟨S1x1x4096x4096, .i1⟩
  | _ => ⟨S8x4096x2048, .f32⟩

abbrev hbmTy0_1 (i : Nat) : BufTy := match i % 128 with
  | 0 => ⟨S_, .f32⟩
  | 1 => ⟨S_, .f32⟩
  | 2 => ⟨S8x16x4096x4096, .i1⟩
  | 3 => ⟨S8x16x4096x4096, .f32⟩
  | 4 => ⟨S8x16x4096x4096, .f32⟩
  | 5 => ⟨S_, .f32⟩
  | 6 => ⟨S8x16x4096, .f32⟩
  | 7 => ⟨S_, .f32⟩
  | 8 => ⟨S8x16x4096, .f32⟩
  | 9 => ⟨S8x16x4096, .f32⟩
  | 10 => ⟨S8x16x4096x1, .f32⟩
  | 11 => ⟨S8x16x4096x4096, .f32⟩
  | 12 => ⟨S8x16x4096x4096, .f32⟩
  | 13 => ⟨S8x16x4096x4096, .f32⟩
  | 14 => ⟨S_, .f32⟩
  | 15 => ⟨S8x16x4096, .f32⟩
  | 16 => ⟨S8x16x4096x1, .f32⟩
  | 17 => ⟨S8x16x4096x4096, .f32⟩
  | 18 => ⟨S8x16x4096x4096, .f32⟩
  | 19 => ⟨S8x16x128x4096, .f32⟩
  | 20 => ⟨S8x4096x16x128, .f32⟩
  | 21 => ⟨S8x4096x2048, .f32⟩
  | 22 => ⟨S2048x2048, .f32⟩
  | 23 => ⟨S8x4096x2048, .f32⟩
  | 24 => ⟨S8x4096x2048, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c : Ref sig .tc := ⟨.hbm, 87, rfl⟩
abbrev main_c_11 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]
-- ==== Kernel2.lean ====
abbrev S32768x2048 : Shape := ⟨2, ![32768, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048x8192, .bf16⟩
  | .hbm, ⟨5, _⟩ => ⟨S2x8192x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S32768x2048 : Shape := ⟨2, ![32768, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S1x2048x8192, .f32⟩
  | .hbm, ⟨23, _⟩ => ⟨S2048x8192, .f32⟩
  | .hbm, ⟨24, _⟩ => ⟨S32768x8192, .f32⟩
  | .hbm, ⟨25, _⟩ => ⟨S_, .f32⟩
  | .hbm, ⟨26, _⟩ => ⟨S32768x8192, .f32⟩
  | .hbm, ⟨27, _⟩ => ⟨S32768x8192, .f32⟩
  | .hbm, ⟨28, _⟩ => ⟨S32768x8192, .f32⟩
  | .hbm, ⟨29, _⟩ => ⟨S1x8192x2048, .f32⟩
  | .hbm, ⟨30, _⟩ => ⟨S8192x2048, .f32⟩
  | .hbm, ⟨31, _⟩ => ⟨S32768x2048, .f32⟩
  | .hbm, ⟨32, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S32768x2048 : Shape := ⟨2, ![32768, 2048]⟩
abbrev S1x2048 : Shape := ⟨2, ![1, 2048]⟩
abbrev S2048x6144 : Shape := ⟨2, ![2048, 6144]⟩
abbrev S2048x128 : Shape := ⟨2, ![2048, 128]⟩
abbrev S1x128 : Shape := ⟨2, ![1, 128]⟩
abbrev S2048 : Shape := ⟨1, ![2048]⟩
abbrev S128 : Shape := ⟨1, ![128]⟩
abbrev S2x128 : Shape := ⟨2, ![2, 128]⟩
abbrev S32768x6144 : Shape := ⟨2, ![32768, 6144]⟩
abbrev S32768x128 : Shape := ⟨2, ![32768, 128]⟩
abbrev S512x2048 : Shape := ⟨2, ![512, 2048]⟩
abbrev S512x6144 : Shape := ⟨2, ![512, 6144]⟩
abbrev S512x128 : Shape := ⟨2, ![512, 128]⟩
abbrev S1x512x2048 : Shape := ⟨3, ![1, 512, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 15
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6144, .bf16⟩
  | .hbm, ⟨3, _⟩ => ⟨S2048x128, .bf16⟩
  | .hbm, ⟨4, _⟩ => ⟨S1x128, .f32⟩
  | .hbm, ⟨5, _⟩ => ⟨S1x128, .f32⟩
  | .hbm, ⟨6, _⟩ => ⟨S2048, .f32⟩
  | .hbm, ⟨7, _⟩ => ⟨S128, .f32⟩
  | .hbm, ⟨8, _⟩ => ⟨S128, .f32⟩
  | .hbm, ⟨9, _⟩ => ⟨S1x2048, .f32⟩
  | .hbm, ⟨10, _⟩ => ⟨S1x128, .f32⟩
  | .hbm, ⟨11, _⟩ => ⟨S1x128, .f32⟩
  | .hbm, ⟨12, _⟩ => ⟨S2x128, .f32⟩
  | .hbm, ⟨13, _⟩ => ⟨S32768x6144, .bf16⟩
  | .hbm, ⟨14, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2x128, .f32⟩
  | .local _ .vmem, ⟨4, _⟩ => ⟨S2048x6144, .bf16⟩
  | .local _ .vmem, ⟨5, _⟩ => ⟨S2048x128, .bf16⟩
  | .local _ .vmem, ⟨6, _⟩ => ⟨S512x6144, .bf16⟩
  | .local _ .vmem, ⟨7, _⟩ => ⟨S512x6144, .bf16⟩
  | .local _ .vmem, ⟨8, _⟩ => ⟨S512x128, .f32⟩
  | .local _ .vmem, ⟨9, _⟩ => ⟨S512x128, .f32⟩
  | .local _ .vmem, ⟨10, _⟩ => ⟨S1x512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
variable {F : FTy → Type} [FloatOps F] [Named F]
def κ : String → Option EReal := fun
  | "log2e" => some (((Real.log 2)⁻¹ : ℝ) : EReal)
  | "q_scale" => some (((Real.sqrt 128)⁻¹ * (Real.log 2)⁻¹ : ℝ) : EReal)
  | _ => none
-- ==== Reference3Ideal.lean ====
abbrev S32768x2048 : Shape := ⟨2, ![32768, 2048]⟩
abbrev S1x2048 : Shape := ⟨2, ![1, 2048]⟩
abbrev S2048x6144 : Shape := ⟨2, ![2048, 6144]⟩
abbrev S2048x128 : Shape := ⟨2, ![2048, 128]⟩
abbrev S1x128 : Shape := ⟨2, ![1, 128]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x6144 : Shape := ⟨2, ![32768, 6144]⟩
abbrev S32768x16x128 : Shape := ⟨3, ![32768, 16, 128]⟩
abbrev S128 : Shape := ⟨1, ![128]⟩
abbrev S32768x16 : Shape := ⟨2, ![32768, 16]⟩
abbrev S32768x16x1 : Shape := ⟨3, ![32768, 16, 1]⟩
abbrev S1x1x128 : Shape := ⟨3, ![1, 1, 128]⟩
abbrev S32768x128 : Shape := ⟨2, ![32768, 128]⟩

abbrev nBuf : Space → Nat
  | .hbm => 77
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6144, .bf16⟩
  | .hbm, ⟨3, _⟩ => ⟨S2048x128, .bf16⟩
  | .hbm, ⟨4, _⟩ => ⟨S1x128, .f32⟩
  | .hbm, ⟨5, _⟩ => ⟨S1x128, .f32⟩
  | .hbm, ⟨6, _⟩ => ⟨S2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S2048x6144, .f32⟩
  | .hbm, ⟨24, _⟩ => ⟨S32768x6144, .f32⟩
  | .hbm, ⟨25, _⟩ => ⟨S32768x2048, .f32⟩
  | .hbm, ⟨26, _⟩ => ⟨S32768x16x128, .f32⟩
  | .hbm, ⟨27, _⟩ => ⟨S128, .f32⟩
  | .hbm, ⟨28, _⟩ => ⟨S32768x16x128, .f32⟩
  | .hbm, ⟨29, _⟩ => ⟨S_, .f32⟩
  | .hbm, ⟨30, _⟩ => ⟨S32768x16, .f32⟩
  | .hbm, ⟨31, _⟩ => ⟨S32768x16x1, .f32⟩
  | .hbm, ⟨32, _⟩ => ⟨S_, .f32⟩
  | .hbm, ⟨33, _⟩ => ⟨S32768x16x1, .f32⟩
  | .hbm, ⟨34, _⟩ => ⟨S32768x16x1, .f32⟩
  | .hbm, ⟨35, _⟩ => ⟨S_, .f32⟩
  | .hbm, ⟨36, _⟩ => ⟨S32768x16x1, .f32⟩
  | .hbm, ⟨37, _⟩ => ⟨S32768x16x1, .f32⟩
  | .hbm, ⟨38, _⟩ => ⟨S32768x16x1, .f32⟩
  | .hbm, ⟨39, _⟩ => ⟨S32768x16x128, .f32⟩
  | .hbm, ⟨40, _⟩ => ⟨S32768x16x128, .f32⟩
  | .hbm, ⟨41, _⟩ => ⟨S1x1x128, .f32⟩
  | .hbm, ⟨42, _⟩ => ⟨S32768x16x128, .f32⟩
  | .hbm, ⟨43, _⟩ => ⟨S32768x16x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S32768x16x128, .f32⟩
  | .hbm, ⟨50, _⟩ => ⟨S32768x16x128, .f32⟩
  | .hbm, ⟨51, _⟩ => ⟨S32768x2048, .f32⟩
  | .hbm, ⟨52, _⟩ => ⟨S32768x16x128, .f32⟩
  | .hbm, ⟨53, _⟩ => ⟨S128, .f32⟩
  | .hbm, ⟨54, _⟩ => ⟨S32768x16x128, .f32⟩
  | .hbm, ⟨55, _⟩ => ⟨S_, .f32⟩
  | .hbm, ⟨56, _⟩ => ⟨S32768x16, .f32⟩
  | .hbm, ⟨57, _⟩ => ⟨S32768x16x1, .f32⟩
  | .hbm, ⟨58, _⟩ => ⟨S_, .f32⟩
  | .hbm, ⟨59, _⟩ => ⟨S32768x16x1, .f32⟩
  | .hbm, ⟨60, _⟩ => ⟨S32768x16x1, .f32⟩
  | .hbm, ⟨61, _⟩ => ⟨S_, .f32⟩
  | .hbm, ⟨62, _⟩ => ⟨S32768x16x1, .f32⟩
  | .hbm, ⟨63, _⟩ => ⟨S32768x16x1, .f32⟩
  | .hbm, ⟨64, _⟩ => ⟨S32768x16x1, .f32⟩
  | .hbm, ⟨65, _⟩ => ⟨S32768x16x128, .f32⟩
  | .hbm, ⟨66, _⟩ => ⟨S32768x16x128, .f32⟩
  | .hbm, ⟨67, _⟩ => ⟨S1x1x128, .f32⟩
  | .hbm, ⟨68, _⟩ => ⟨S32768x16x128, .f32⟩
  | .hbm, ⟨69, _⟩ => ⟨S32768x16x128, .f32⟩
  | .hbm, ⟨70, _⟩ => ⟨S32768x2048, .f32⟩
  | .hbm, ⟨71, _⟩ => ⟨S32768x2048, .f32⟩
  | .hbm, ⟨72, _⟩ => ⟨S32768x2048, .f32⟩
  | .hbm, ⟨73, _⟩ => ⟨S32768x6144, .f32⟩
  | .hbm, ⟨74, _⟩ => ⟨S32768x6144, .bf16⟩
  | .hbm, ⟨75, _⟩ => ⟨S2048x128, .f32⟩
  | .hbm, ⟨76, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Kernel4.lean ====
abbrev S8x4096x6144 : Shape := ⟨3, ![8, 4096, 6144]⟩
abbrev S8x4096x128 : Shape := ⟨3, ![8, 4096, 128]⟩
abbrev S1x16 : Shape := ⟨2, ![1, 16]⟩
abbrev S384x256 : Shape := ⟨2, ![384, 256]⟩
abbrev S1x256 : Shape := ⟨2, ![1, 256]⟩
abbrev S16 : Shape := ⟨1, ![16]⟩
abbrev S_ : Shape := ⟨0, ![]⟩
abbrev S128 : Shape := ⟨1, ![128]⟩
abbrev S1x128 : Shape := ⟨2, ![1, 128]⟩
abbrev S1x4096x128 : Shape := ⟨3, ![1, 4096, 128]⟩
abbrev S4096x128 : Shape := ⟨2, ![4096, 128]⟩
abbrev S4096x384 : Shape := ⟨2, ![4096, 384]⟩
abbrev S4096x256 : Shape := ⟨2, ![4096, 256]⟩
abbrev S8x4096x2048 : Shape := ⟨3, ![8, 4096, 2048]⟩
abbrev S8x512x256 : Shape := ⟨3, ![8, 512, 256]⟩
abbrev S128x4096 : Shape := ⟨2, ![128, 4096]⟩
abbrev S512x512 : Shape := ⟨2, ![512, 512]⟩
abbrev S128x512 : Shape := ⟨2, ![128, 512]⟩
abbrev S512x128 : Shape := ⟨2, ![512, 128]⟩
abbrev S1x512x128 : Shape := ⟨3, ![1, 512, 128]⟩
abbrev S1x256x256 : Shape := ⟨3, ![1, 256, 256]⟩
abbrev S256x256 : Shape := ⟨2, ![256, 256]⟩
abbrev S32x8x256 : Shape := ⟨3, ![32, 8, 256]⟩
abbrev S8x256 : Shape := ⟨2, ![8, 256]⟩
abbrev S256 : Shape := ⟨1, ![256]⟩
abbrev S128x256 : Shape := ⟨2, ![128, 256]⟩
abbrev S512x256 : Shape := ⟨2, ![512, 256]⟩
abbrev S1x512 : Shape := ⟨2, ![1, 512]⟩

abbrev nBuf : Space → Nat
  | .hbm => 13
  | .vmem => 29
  | .smem => 0
  | _ => 0

abbrev bufTy : (tb : Table) → Fin (tcTables nBuf tb) → BufTy
  | .hbm, ⟨0, _⟩ => ⟨S8x4096x6144, .bf16⟩
  | .hbm, ⟨1, _⟩ => ⟨S8x4096x128, .f32⟩
  | .hbm, ⟨2, _⟩ => ⟨S1x16, .f32⟩
  | .hbm, ⟨3, _⟩ => ⟨S384x256, .bf16⟩
  | .hbm, ⟨4, _⟩ => ⟨S1x256, .f32⟩
  | .hbm, ⟨5, _⟩ => ⟨S16, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S8x4096x128, .bf16⟩
  | .hbm, ⟨11, _⟩ => ⟨S8x4096x128, .bf16⟩
  | .hbm, ⟨12, _⟩ => ⟨S8x4096x2048, .bf16⟩
  | .local _ .vmem, ⟨0, _⟩ => ⟨S1x4096x128, .f32⟩
  | .local _ .vmem, ⟨1, _⟩ => ⟨S1x4096x128, .f32⟩
  | .local _ .vmem, ⟨2, _⟩ => ⟨S1x128, .f32⟩
  | .local _ .vmem, ⟨3, _⟩ => ⟨S384x256, .bf16⟩
  | .local _ .vmem, ⟨4, _⟩ => ⟨S1x256, .f32⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S8x512x256, .bf16⟩
  | .local _ .vmem, ⟨22, _⟩ => ⟨S8x512x256, .bf16⟩
  | .local _ .vmem, ⟨23, _⟩ => ⟨S128x4096, .bf16⟩
  | .local _ .vmem, ⟨24, _⟩ => ⟨S512x512, .f32⟩
  | .local _ .vmem, ⟨25, _⟩ => ⟨S512x512, .f32⟩
  | .local _ .vmem, ⟨26, _⟩ => ⟨S512x512, .bf16⟩
  | .local _ .vmem, ⟨27, _⟩ => ⟨S512x512, .bf16⟩
  | .local _ .vmem, ⟨28, _⟩ => ⟨S128x512, .f32⟩
  | _, _ => ⟨S8x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc1_scratch6 : Ref sig .tc := ⟨.vmem, 27, rfl⟩
abbrev cc1_scratch7 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Kernel4Ideal.lean ====
variable {F : FTy → Type} [FloatOps F] [Named F]
def κ : String → Option EReal := fun
  | "log2e" => some (((Real.log 2)⁻¹ : ℝ) : EReal)
  | "q_scale" => some (((Real.sqrt 128)⁻¹ * (Real.log 2)⁻¹ : ℝ) : EReal)
  | _ => none
-- ==== Reference4Ideal.lean ====
abbrev S8x4096x6144 : Shape := ⟨3, ![8, 4096, 6144]⟩
abbrev S8x4096x128 : Shape := ⟨3, ![8, 4096, 128]⟩
abbrev S1x16 : Shape := ⟨2, ![1, 16]⟩
abbrev S8x4096x2048 : Shape := ⟨3, ![8, 4096, 2048]⟩
abbrev S8x4096x16x128 : Shape := ⟨4, ![8, 4096, 16, 128]⟩
abbrev S8x4096x16 : Shape := ⟨3, ![8, 4096, 16]⟩
abbrev S16 : Shape := ⟨1, ![16]⟩
abbrev S1x1x16 : Shape := ⟨3, ![1, 1, 16]⟩
abbrev S_ : Shape := ⟨0, ![]⟩
abbrev S8x16x4096 : Shape := ⟨3, ![8, 16, 4096]⟩
abbrev S8x16x4096x4096 : Shape := ⟨4, ![8, 16, 4096, 4096]⟩
abbrev S8x16x4096x1 : Shape := ⟨4, ![8, 16, 4096, 1]⟩
abbrev S8x16x1x4096 : Shape := ⟨4, ![8, 16, 1, 4096]⟩
abbrev S4096x4096 : Shape := ⟨2, ![4096, 4096]⟩
abbrev S1x1x4096x4096 : Shape := ⟨4, ![1, 1, 4096, 4096]⟩
abbrev S8x16x128x4096 : Shape := ⟨4, ![8, 16, 128, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x6144, .bf16⟩
  | .hbm, ⟨1, _⟩ => ⟨S8x4096x128, .f32⟩
  | .hbm, ⟨2, _⟩ => ⟨S1x16, .f32⟩
  | .hbm, ⟨3, _⟩ => ⟨S8x4096x6144, .f32⟩
  | .hbm, ⟨4, _⟩ => ⟨S8x4096x2048, .f32⟩
  | .hbm, ⟨5, _⟩ => ⟨S8x4096x16x128, .f32⟩
  | .hbm, ⟨6, _⟩ => ⟨S8x4096x2048, .f32⟩
  | .hbm, ⟨7, _⟩ => ⟨S8x4096x16x128, .f32⟩
  | .hbm, ⟨8, _⟩ => ⟨S8x4096x2048, .f32⟩
  | .hbm, ⟨9, _⟩ => ⟨S8x4096x16x128, .f32⟩
  | .hbm, ⟨10, _⟩ => ⟨S8x4096x16, .f32⟩
  | .hbm, ⟨11, _⟩ => ⟨S16, .f32⟩
  | .hbm, ⟨12, _⟩ => ⟨S1x1x16, .f32⟩
  | .hbm, ⟨13, _⟩ => ⟨S8x4096x16, .f32⟩
  | .hbm, ⟨14, _⟩ => ⟨S8x4096x16, .f32⟩
  | .hbm, ⟨15, _⟩ => ⟨S8x4096x16, .f32⟩
  | .hbm, ⟨16, _⟩ => ⟨S8x4096x16, .f32⟩
  | .hbm, ⟨17, _⟩ => ⟨S8x4096x16, .f32⟩
  | .hbm, ⟨18, _⟩ => ⟨S8x4096x16, .f32⟩
  | .hbm, ⟨19, _⟩ => ⟨S_, .f32⟩
  | .hbm, ⟨20, _⟩ => ⟨S_, .f32⟩
  | .hbm, ⟨21, _⟩ => ⟨S8x4096x16, .f32⟩
  | .hbm, ⟨22, _⟩ => ⟨S8x16x4096, .f32⟩
  | .hbm, ⟨23, _⟩ => ⟨S8x16x4096x4096, .f32⟩
  | .hbm, ⟨24, _⟩ => ⟨S_, .f32⟩
  | .hbm, ⟨25, _⟩ => ⟨S_, .f32⟩
  | .hbm, ⟨26, _⟩ => ⟨S8x16x4096x4096, .f32⟩
  | .hbm, ⟨27, _⟩ => ⟨S8x16x4096x4096, .f32⟩
  | .hbm, ⟨28, _⟩ => ⟨S8x16x4096x1, .f32⟩
  | .hbm, ⟨29, _⟩ => ⟨S8x16x1x4096, .f32⟩
  | .hbm, ⟨30, _⟩ => ⟨S8x16x4096x4096, .f32⟩
  | .hbm, ⟨31, _⟩ => ⟨S8x16x4096x4096, .f32⟩
  | .hbm, ⟨32, _⟩ => ⟨S8x16x4096x4096, .f32⟩
  | .hbm, ⟨33, _⟩ => ⟨S8x16x4096x4096, .f32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x1x4096x4096, .i1⟩
  | .hbm, ⟨38, _⟩ => ⟨S_, .f32⟩
  | .hbm, ⟨39, _⟩ => ⟨S_, .f32⟩
  | .hbm, ⟨40, _⟩ => ⟨S8x16x4096x4096, .i1⟩
  | .hbm, ⟨41, _⟩ => ⟨S8x16x4096x4096, .f32⟩
  | .hbm, ⟨42, _⟩ => ⟨S8x16x4096x4096, .f32⟩
  | .hbm, ⟨43, _⟩ => ⟨S_, .f32⟩
  | .hbm, ⟨44, _⟩ => ⟨S8x16x4096, .f32⟩
  | .hbm, ⟨45, _⟩ => ⟨S_, .f32⟩
  | .hbm, ⟨46, _⟩ => ⟨S8x16x4096, .f32⟩
  | .hbm, ⟨47, _⟩ => ⟨S8x16x4096, .f32⟩
  | .hbm, ⟨48, _⟩ => ⟨S8x16x4096x1, .f32⟩
  | .hbm, ⟨49, _⟩ => ⟨S8x16x4096x4096, .f32⟩
  | .hbm, ⟨50, _⟩ => ⟨S8x16x4096x4096, .f32⟩
  | .hbm, ⟨51, _⟩ => ⟨S8x16x4096x4096, .f32⟩
  | .hbm, ⟨52, _⟩ => ⟨S_, .f32⟩
  | .hbm, ⟨53, _⟩ => ⟨S8x16x4096, .f32⟩
  | .hbm, ⟨54, _⟩ => ⟨S8x16x4096x1, .f32⟩
  | .hbm, ⟨55, _⟩ => ⟨S8x16x4096x4096, .f32⟩
  | .hbm, ⟨56, _⟩ => ⟨S8x16x4096x4096, .f32⟩
  | .hbm, ⟨57, _⟩ => ⟨S8x16x128x4096, .f32⟩
  | .hbm, ⟨58, _⟩ => ⟨S8x4096x16x128, .f32⟩
  | .hbm, ⟨59, _⟩ => ⟨S8x4096x2048, .f32⟩
  | .hbm, ⟨60, _⟩ => ⟨S8x4096x2048, .bf16⟩
  | _, _ => ⟨S8x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_call0_cst : Ref sig .tc := ⟨.hbm, 19, rfl⟩
abbrev main_call0_call0_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Proof.Forms.lean ====
/- The closed forms the value proofs speak in: plain functions over the extended reals, with no arrays or blocks in them. -/
module

public import Idealize.ShloMosaic.Lib.Pipeline.ValueKit
public import Idealize.ShloMosaic.Lib.Pointwise

@[expose] public section

set_option maxRecDepth 16384

noncomputable section

open Idealize.ShloMosaic

namespace Cert.Forms

/-- The small number added under the root of every norm. -/
def eps : EReal := Ideal.ofBits .f32 0x358637BD#32

/-- A vector divided by the root of its mean square: `N` is the vector's length as a float. -/
def unitRms {n : ℕ} (N : EReal) (x : Fin n → EReal) (k : Fin n) : EReal :=
  x k * Ideal.rsqrt (Ideal.div (∑ l, x l * x l) N + eps)

/-- The norm over the model's 2048 features, times its gain. -/
def norm (x g : Fin 2048 → EReal) (k : Fin 2048) : EReal :=
  unitRms (Ideal.ofBits .f32 0x45000000#32) x k * g k

/-- A row of 16 heads of 128 features, each divided by the root of its mean square and multiplied by the gain. -/
def headNorm (y : Fin 2048 → EReal) (g : Fin 128 → EReal) (n : Fin 2048) : EReal :=
  unitRms (Ideal.ofBits .f32 0x43000000#32) (fun d : Fin 128 => y ⟨n.val / 128 * 128 + d.val, by have := n.isLt; have := d.isLt; omega⟩)
    ⟨n.val % 128, Nat.mod_lt _ (by decide)⟩ * g ⟨n.val % 128, Nat.mod_lt _ (by decide)⟩

/-- A head's feature, by the head and the feature. -/
theorem headNorm_at (y : Fin 2048 → EReal) (g : Fin 128 → EReal) (n : Fin 2048) (hd : ℕ) (d : Fin 128) (hn : n.val = hd * 128 + d.val) :
    headNorm y g n = unitRms (Ideal.ofBits .f32 0x43000000#32) (fun d : Fin 128 => y ⟨hd * 128 + d.val, by have := n.isLt; have := d.isLt; omega⟩) d * g d := by
  have hd' := d.isLt
  have h1 : n.val / 128 = hd := by omega
  have h2 : (⟨n.val % 128, Nat.mod_lt _ (by decide)⟩ : Fin 128) = d := Fin.ext (by show n.val % 128 = d.val; omega)
  unfold headNorm
  rw [h2]
  simp only [h1]

/-- The squared rectifier. -/
def sqRelu (a : EReal) : EReal := max a 0 * max a 0

/-- One term of the MLP's second product, in the hidden unit `l`: the squared rectifier of the first product, times the weight. -/
def mlpTerm (x g : Fin 2048 → EReal) (w1 : Fin 2048 → Fin 8192 → EReal) (w2 : Fin 8192 → EReal) (l : Fin 8192) : EReal :=
  sqRelu (∑ i, norm x g i * w1 i l) * w2 l

/-- The terms of slab `s`: 2048 consecutive hidden units. -/
def slab (f : Fin 8192 → EReal) (s : ℕ) : EReal :=
  ∑ l : Fin 2048, f ⟨(s * 2048 + l.val) % 8192, Nat.mod_lt _ (by decide)⟩

/-- The four slabs are the whole sum. -/
theorem sum_slabs (f : Fin 8192 → EReal) : ∑ s ∈ Finset.range 4, slab f s = ∑ l, f l := by
  rw [Finset.sum_range (fun s => slab f s)]
  refine Eq.trans ?_ (Fin.sum_univ_tiles 4 2048 rfl f).symm
  refine Finset.sum_congr rfl fun s _ => Finset.sum_congr rfl fun l _ => ?_
  exact congrArg f (Fin.ext (Nat.mod_eq_of_lt (by have := s.isLt; have := l.isLt; omega)))

end Cert.Forms
-- ==== Proof.Mlp.lean ====
/- The MLP call: what the kernel's body computes at one point of its grid, what four points of one row block leave in the
   output, and that this is the reference's term. -/
module

public import proofs.«01_k».proof.Proof.Forms
public import proofs.«01_k».proof.Defs
public import proofs.«01_k».proof.Proof.Gen.Kernel2Ideal.Value
public import proofs.«01_k».proof.Proof.Gen.Reference2Ideal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Forms

/-- The norm payload at a row and a feature. -/
theorem pay1_at (x : FVec Ideal S512x2048 .f32) (g : FVec Ideal S1x2048 .f32) (r : Fin 512) (k : Fin 2048) :
    k0_pay1 (F := Ideal) x g (ix2 r k) = norm (fun l => x (ix2 r l)) (fun l => g (ix2 0 l)) k := by
  pointwise [k0_pay1]
  rfl

/-- The first slab's payload: the residual plus the slab's product. -/
theorem pay2_at (x : FVec Ideal S512x2048 .f32) (u : FVec Ideal S512x2048 .bf16) (w w' : FVec Ideal S1x2048x2048 .bf16) (r : Fin 512) (k : Fin 2048) :
    k0_pay2 (F := Ideal) x u w w' (ix2 r k)
      = x (ix2 r k) + ∑ l : Fin 2048, sqRelu (∑ i : Fin 2048, u (ix2 r i) * w (ix3 0 i l)) * w' (ix3 0 l k) := by
  pointwise [k0_pay2]
  rfl

/-- A later slab's payload: what was there plus the slab's product. -/
theorem pay3_at (x : FVec Ideal S512x2048 .f32) (u : FVec Ideal S512x2048 .bf16) (w w' : FVec Ideal S1x2048x2048 .bf16) (r : Fin 512) (k : Fin 2048) :
    k0_pay3 (F := Ideal) x u w w' (ix2 r k)
      = x (ix2 r k) + ∑ l : Fin 2048, sqRelu (∑ i : Fin 2048, u (ix2 r i) * w (ix3 0 i l)) * w' (ix3 0 l k) := by
  pointwise [k0_pay3]
  rfl

variable (m : (ℓ : Loc nD τ sig) → Buf (Elt Ideal) ℓ)

/-- The windows' block indices, at every point. -/
theorem idx : ∀ t : Fin cfg0.N, win0_0.index t = ![t.val / 4, 0] ∧ win0_1.index t = ![0, 0] ∧ win0_2.index t = ![1, 0, t.val % 4]
    ∧ win0_3.index t = ![1, t.val % 4, 0] ∧ win0_4.index t = ![t.val / 4, 0] :=
  (by decide +kernel : ∀ t : Fin grid0.N, _)

/-- At the first point of a row block the output holds the residual plus the first slab. -/
theorem outs_A (c : Dev nD) (t : Fin cfg0.N) (h0 : t.val % 4 = 0) :
    outsAt0 m c t.val t.isLt = (k0_pay2 (iblk m c 0 t) (k0_pay1 (iblk m c 0 t) (iblk m c 1 t)) (iblk m c 2 t) (iblk m c 3 t),
      k0_pay1 (iblk m c 0 t) (iblk m c 1 t)) := by
  rw [outsAt0_A m c t h0 (by omega)]
  refine Prod.ext ?_ ?_
  · frame_out
  · frame_out

/-- At a later point the slab is added and the normed rows stay. -/
theorem outs_B (c : Dev nD) (t : Fin cfg0.N) (h0 : ¬ t.val % 4 = 0) :
    outsAt0 m c t.val t.isLt = (k0_pay3 (outsAt0 m c (t.val - 1) (Nat.lt_of_le_of_lt (Nat.sub_le _ _) t.isLt)).1
      (outsAt0 m c (t.val - 1) (Nat.lt_of_le_of_lt (Nat.sub_le _ _) t.isLt)).2 (iblk m c 2 t) (iblk m c 3 t),
      (outsAt0 m c (t.val - 1) (Nat.lt_of_le_of_lt (Nat.sub_le _ _) t.isLt)).2) := by
  rw [outsAt0_B m c t h0 (by omega)]
  refine Prod.ext ?_ ?_
  · frame_out
    rw [(Memref.isWhole_whole _).read_unread]
  · rfl

/-- The input rows of a point's block. -/
theorem blk0 (c : Dev nD) (t : Fin cfg0.N) (r : Fin 512) (k : Fin 2048) (hb : t.val / 4 * 512 + r.val < 32768) :
    (iblk m c 0 t : FVec Ideal S512x2048 .f32) (ix2 r k) = (m ((c : Thread nD τ).loc main_arg0) : FVec Ideal S32768x2048 .f32) (ix2 ⟨t.val / 4 * 512 + r.val, hb⟩ k) := by
  blk_point [iblk, V, idx t]

/-- The gain's block is the second layer's gain. -/
theorem blk1 (c : Dev nD) (t : Fin cfg0.N) (k : Fin 2048) :
    (iblk m c 1 t : FVec Ideal S1x2048 .f32) (ix2 0 k) = (m ((c : Thread nD τ).loc main_arg1) : FVec Ideal S2x2048 .f32) (ix2 1 k) := by
  blk_point [iblk, V, idx t]

/-- The first matrix's slab: columns from the point's place in its run. -/
theorem blk2 (c : Dev nD) (t : Fin cfg0.N) (i l : Fin 2048) (hb : t.val % 4 * 2048 + l.val < 8192) :
    (iblk m c 2 t : FVec Ideal S1x2048x2048 .bf16) (ix3 0 i l) = (m ((c : Thread nD τ).loc main_arg2) : FVec Ideal S2x2048x8192 .f32) (ix3 1 i ⟨t.val % 4 * 2048 + l.val, hb⟩) := by
  blk_point [iblk, V, idx t]

/-- The second matrix's slab: rows from the point's place in its run. -/
theorem blk3 (c : Dev nD) (t : Fin cfg0.N) (l k : Fin 2048) (hb : t.val % 4 * 2048 + l.val < 8192) :
    (iblk m c 3 t : FVec Ideal S1x2048x2048 .bf16) (ix3 0 l k) = (m ((c : Thread nD τ).loc main_arg3) : FVec Ideal S2x8192x2048 .f32) (ix3 1 ⟨t.val % 4 * 2048 + l.val, hb⟩ k) := by
  blk_point [iblk, V, idx t]

section
variable (X : FVec Ideal S32768x2048 .f32) (G : FVec Ideal S2x2048 .f32) (W1 : FVec Ideal S2x2048x8192 .f32) (W2 : FVec Ideal S2x8192x2048 .f32)

/-- A term of the result at row `a` and feature `k`. -/
def term (a : Fin 32768) (k : Fin 2048) : Fin 8192 → EReal :=
  mlpTerm (fun l => X (ix2 a l)) (fun l => G (ix2 1 l)) (fun i l => W1 (ix3 1 i l)) (fun l => W2 (ix3 1 l k))

/-- The call's result at row `a` and feature `k`: the residual plus the sum over all hidden units. -/
def res (a : Fin 32768) (k : Fin 2048) : EReal := X (ix2 a k) + ∑ l, term X G W1 W2 a k l

/-- The residual plus the first `n` slabs. -/
def part (a : Fin 32768) (k : Fin 2048) (n : ℕ) : EReal := X (ix2 a k) + ∑ s ∈ Finset.range n, slab (term X G W1 W2 a k) s
end

/-- The row of the array that row `r` of the block at point `n` is. -/
def rowAt (n : ℕ) (hn : n < cfg0.N) (r : Fin 512) : Fin 32768 :=
  ⟨n / 4 * 512 + r.val, by have := lt_of_lt_of_eq hn (show cfg0.N = 256 from N_0); have := r.isLt; omega⟩

/-- What a point's slab adds, when the scratch holds the normed rows. -/
theorem slab_at (c : Dev nD) (t : Fin cfg0.N) (u : FVec Ideal S512x2048 .bf16) (r : Fin 512) (k : Fin 2048)
    (hu : ∀ i : Fin 2048, u (ix2 r i) = norm (fun l => (m ((c : Thread nD τ).loc main_arg0) : FVec Ideal S32768x2048 .f32) (ix2 (rowAt t.val t.isLt r) l))
      (fun l => (m ((c : Thread nD τ).loc main_arg1) : FVec Ideal S2x2048 .f32) (ix2 1 l)) i) :
    ∑ l : Fin 2048, sqRelu (∑ i : Fin 2048, u (ix2 r i) * (iblk m c 2 t : FVec Ideal S1x2048x2048 .bf16) (ix3 0 i l))
        * (iblk m c 3 t : FVec Ideal S1x2048x2048 .bf16) (ix3 0 l k)
      = slab (term (m ((c : Thread nD τ).loc main_arg0)) (m ((c : Thread nD τ).loc main_arg1)) (m ((c : Thread nD τ).loc main_arg2))
          (m ((c : Thread nD τ).loc main_arg3)) (rowAt t.val t.isLt r) k) (t.val % 4) := by
  refine Finset.sum_congr rfl fun l _ => ?_
  have hb : t.val % 4 * 2048 + l.val < 8192 := by have := l.isLt; omega
  have hl : (⟨(t.val % 4 * 2048 + l.val) % 8192, Nat.mod_lt _ (by decide)⟩ : Fin 8192) = ⟨t.val % 4 * 2048 + l.val, hb⟩ :=
    Fin.ext (Nat.mod_eq_of_lt hb)
  rw [hl]
  unfold term mlpTerm
  rw [blk3 m c t l k hb]
  refine congrArg (· * _) (congrArg sqRelu (Finset.sum_congr rfl fun i _ => ?_))
  rw [hu i, blk2 m c t i l hb]

/-- What point `t` leaves: the normed rows in the scratch, and the residual plus the slabs so far in the output. -/
theorem outs_at (c : Dev nD) : ∀ (n : ℕ) (hn : n < cfg0.N) (r : Fin 512) (k : Fin 2048),
    (outsAt0 m c n hn).2 (ix2 r k) = norm (fun l => (m ((c : Thread nD τ).loc main_arg0) : FVec Ideal S32768x2048 .f32) (ix2 (rowAt n hn r) l))
        (fun l => (m ((c : Thread nD τ).loc main_arg1) : FVec Ideal S2x2048 .f32) (ix2 1 l)) k
    ∧ (outsAt0 m c n hn).1 (ix2 r k) = part (m ((c : Thread nD τ).loc main_arg0)) (m ((c : Thread nD τ).loc main_arg1))
            (m ((c : Thread nD τ).loc main_arg2)) (m ((c : Thread nD τ).loc main_arg3)) (rowAt n hn r) k (n % 4 + 1) := by
  intro n
  induction n using Nat.strong_induction_on with
  | _ n ih =>
    intro hn r k
    by_cases h0 : n % 4 = 0
    · have e := outs_A m c ⟨n, hn⟩ h0
      dsimp only at e
      have hu : ∀ i : Fin 2048, k0_pay1 (F := Ideal) (iblk m c 0 ⟨n, hn⟩) (iblk m c 1 ⟨n, hn⟩) (ix2 r i) = norm (fun l => (m ((c : Thread nD τ).loc main_arg0) : FVec Ideal S32768x2048 .f32) (ix2 (rowAt n hn r) l))
          (fun l => (m ((c : Thread nD τ).loc main_arg1) : FVec Ideal S2x2048 .f32) (ix2 1 l)) i := by
        intro i
        rw [pay1_at]
        exact congrArg₂ (fun x g => norm x g i) (funext fun l => blk0 m c ⟨n, hn⟩ r l _) (funext fun l => blk1 m c ⟨n, hn⟩ l)
      rw [e]
      refine ⟨hu k, ?_⟩
      dsimp only
      rw [pay2_at, slab_at m c ⟨n, hn⟩ _ r k hu, blk0 m c ⟨n, hn⟩ r k (rowAt n hn r).isLt]
      dsimp only
      unfold part
      rw [h0, zero_add, Finset.sum_range_one]
      rfl
    · have e := outs_B m c ⟨n, hn⟩ h0
      dsimp only at e
      have hr : ∀ r, rowAt (n - 1) (Nat.lt_of_le_of_lt (Nat.sub_le _ _) hn) r = rowAt n hn r := fun r =>
        Fin.ext (by show (n - 1) / 4 * 512 + r.val = n / 4 * 512 + r.val; omega)
      have hp := fun r k => ih (n - 1) (by omega) (Nat.lt_of_le_of_lt (Nat.sub_le _ _) hn) r k
      simp only [hr] at hp
      rw [e]
      refine ⟨(hp r k).1, ?_⟩
      dsimp only
      rw [pay3_at, slab_at m c ⟨n, hn⟩ _ r k (fun i => (hp r i).1), (hp r k).2]
      unfold part
      rw [Finset.sum_range_succ _ (n % 4), ← add_assoc, show (n - 1) % 4 + 1 = n % 4 by omega]

/-- The result array at every index. -/
theorem final_at (c : Dev nD) (a : Fin 32768) (k : Fin 2048) :
    (G4 m c : FVec Ideal S32768x2048 .f32) (ix2 a k)
      = res (m ((c : Thread nD τ).loc main_arg0)) (m ((c : Thread nD τ).loc main_arg1)) (m ((c : Thread nD τ).loc main_arg2)) (m ((c : Thread nD τ).loc main_arg3)) a k := by
  have ha := a.isLt
  have hk := k.isLt
  have hp : pt4Of (ix2 a k) = 4 * (a.val / 512) + 3 := by
    show 4 * (1 * (a.val / 512 - 0) + 1 * (k.val / 2048 - 0)) + 3 = _
    omega
  have hN : pt4Of (ix2 a k) < cfg0.N := by rw [hp, show cfg0.N = 256 from N_0]; omega
  unfold G4
  rw [dif_pos hN, ← outsAt0_sweep m c (pt4Of (ix2 a k)) hN]
  have hl : loc4Of (ix2 a k) = ix2 (⟨a.val % 512, Nat.mod_lt _ (by decide)⟩ : Fin 512) k := by
    funext b
    match b with
    | ⟨0, _⟩ => rfl
    | ⟨1, _⟩ => exact Fin.ext (Nat.mod_eq_of_lt hk)
  rw [hl, (outs_at m c _ hN _ k).2]
  have hrow : rowAt (pt4Of (ix2 a k)) hN ⟨a.val % 512, Nat.mod_lt _ (by decide)⟩ = a := by
    refine Fin.ext ?_
    show pt4Of (ix2 a k) / 4 * 512 + a.val % 512 = a.val
    rw [hp]; omega
  rw [hrow, show pt4Of (ix2 a k) % 4 + 1 = 4 by rw [hp]; omega]
  unfold part res
  rw [sum_slabs]

/-- The reference's result at every index is the same sum. -/
theorem ref_at (X : FVec Ideal S32768x2048 .f32) (G : FVec Ideal S2x2048 .f32) (W1 : FVec Ideal S2x2048x8192 .f32) (W2 : FVec Ideal S2x8192x2048 .f32)
    (a : Fin 32768) (k : Fin 2048) :
    Cert.Reference2Ideal.Read.val_main_v23 (F := Ideal) X G W1 W2 (ix2 a k) = res X G W1 W2 a k := by
  open Cert.Reference2Ideal.Read in
  pointwise [val_main_v23, val_main_v22, val_main_v21, val_main_v20, val_main_v19, val_main_v18, val_main_call0_v0, val_main_call0_cst, val_main_v17, val_main_v16, val_main_v15,
    val_main_v14, val_main_v13, val_main_v12, val_main_v11, val_main_v10, val_main_v9, val_main_v8, val_main_v7, val_main_cst_1, val_main_v6, val_main_v5, val_main_cst_0,
    val_main_v4, val_main_v3, val_main_cst, val_main_v2, val_main_v1, val_main_v0]
  rfl

end Cert.Kernel2Ideal.Value
-- ==== Proof.Run.lean ====
/-
  What the mixer's run leaves in its result buffer: the contents the four calls and the host operations between them fold to.
-/
module

public import proofs.«01_k».proof.Proof.Gen.KernelIdeal.Frame

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The mixer runs; its result buffer ends at the last boundary's contents, and its arguments as launched. -/
theorem run : θ_run defs (onTc (τ := τ) (main (F := F))) ⟨m, fun _ => 0, ρ⟩ (fun r => ∀ c : Dev nD,
      r.2.mem ((c.tc : Thread nD τ).loc main_v37) = W10 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v37 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Mixer

end
-- ==== Proof.Proj.lean ====
module

public import proofs.«01_k».proof.Proof.Forms
public import proofs.«01_k».proof.Proof.Gen.KernelIdeal.Frame
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen Cert.Forms

variable (V : (c : Dev nD) → (b : Ref sig .tc) → Buf (Elt Ideal) ((c : Thread nD τ).loc b))

/-- The scale of the query heads' gain. -/
def qScale : EReal := Named.named (F := Ideal) Cert.KernelIdeal.κ "q_scale" (φ := .f32) 0x3E0293EE#32

/-- A row of an array of 2048 columns. -/
def rowOf {R : ℕ} (X : FVec Ideal ⟨2, ![R, 2048]⟩ .f32) (r : Fin R) : Fin 2048 → EReal := fun l => X (ix2 r l)

/-- A normed row, under the gain in row `b`. -/
def rowNorm (x : Fin 2048 → EReal) (G : FVec Ideal S2x2048 .f32) (b : Fin 2) : Fin 2048 → EReal := norm x (fun l => G (ix2 b l))

/-- The first 2048 columns of the row's product with the key and value weights. -/
def rowK (x : Fin 2048 → EReal) (G : FVec Ideal S2x2048 .f32) (W : FVec Ideal S2048x4096 .bf16) (i : Fin 2048) : EReal :=
  ∑ l : Fin 2048, rowNorm x G 0 l * W (ix2 l ⟨i.val, by omega⟩)

/-- The other 2048 columns. -/
def rowV (x : Fin 2048 → EReal) (G : FVec Ideal S2x2048 .f32) (W : FVec Ideal S2048x4096 .bf16) (i : Fin 2048) : EReal :=
  ∑ l : Fin 2048, rowNorm x G 0 l * W (ix2 l ⟨2048 + i.val, by omega⟩)

/-- The row's product with the query weights. -/
def rowQ (x : Fin 2048 → EReal) (G : FVec Ideal S2x2048 .f32) (W : FVec Ideal S2048x2048 .bf16) (i : Fin 2048) : EReal :=
  ∑ l : Fin 2048, rowNorm x G 1 l * W (ix2 l i)

/-- The key heads' gain, and the query heads' with its scale. -/
def kGain (S : FVec Ideal S2x128 .f32) (d : Fin 128) : EReal := S (ix2 0 d)
def qGain (S : FVec Ideal S2x128 .f32) (d : Fin 128) : EReal := S (ix2 1 d) * qScale

/-- A row of the projection: key heads, values, query heads. -/
def projRow (y v y' : Fin 2048 → EReal) (g g' : Fin 128 → EReal) (n : Fin 6144) : EReal :=
  if h : n.val < 2048 then headNorm y g ⟨n.val, h⟩
  else if h' : n.val < 4096 then v ⟨n.val - 2048, by omega⟩
  else headNorm y' g' ⟨n.val - 4096, by have := n.isLt; omega⟩

section
variable (y v y' : Fin 2048 → EReal) (g g' : Fin 128 → EReal) (n : Fin 6144) (o O : ℕ) (d : Fin 128)

/-- At the key head from column `o` on. -/
theorem projRow_k (hb : ∀ x : Fin 128, o + x.val < 2048) (h : n.val = o + d.val) (ho : o % 128 = 0) :
    projRow y v y' g g' n = unitRms (Ideal.ofBits .f32 0x43000000#32) (fun d : Fin 128 => y ⟨o + d.val, hb d⟩) d * g d := by
  have := d.isLt; have := hb d
  unfold projRow
  rw [dif_pos (by omega), headNorm_at y g _ (o / 128) d (by show n.val = _; omega)]
  simp only [show o / 128 * 128 = o by omega]

/-- At the first key head. -/
theorem projRow_k0 (hb : ∀ x : Fin 128, x.val < 2048) (h : n.val = d.val) :
    projRow y v y' g g' n = unitRms (Ideal.ofBits .f32 0x43000000#32) (fun d : Fin 128 => y ⟨d.val, hb d⟩) d * g d := by
  rw [projRow_k y v y' g g' n 0 d (fun x => by omega) (by omega) rfl]
  simp only [Nat.zero_add]

/-- At a value. -/
theorem projRow_v (i : Fin 2048) (h : n.val = 2048 + i.val) : projRow y v y' g g' n = v i := by
  have := i.isLt
  unfold projRow
  rw [dif_neg (by omega), dif_pos (by omega)]
  exact congrArg v (Fin.ext (by show n.val - 2048 = i.val; omega))

/-- At the query head from column `o` on. -/
theorem projRow_q (hb : ∀ x : Fin 128, o + x.val < 2048) (h : n.val = O + d.val) (hO : O = 4096 + o) (ho : o % 128 = 0) :
    projRow y v y' g g' n = unitRms (Ideal.ofBits .f32 0x43000000#32) (fun d : Fin 128 => y' ⟨o + d.val, hb d⟩) d * g' d := by
  have := d.isLt; have := hb d
  unfold projRow
  rw [dif_neg (by omega), dif_neg (by omega), headNorm_at y' g' _ (o / 128) d (by show n.val - 4096 = _; omega)]
  simp only [show o / 128 * 128 = o by omega]

/-- At the first query head. -/
theorem projRow_q0 (hb : ∀ x : Fin 128, x.val < 2048) (h : n.val = 4096 + d.val) :
    projRow y v y' g g' n = unitRms (Ideal.ofBits .f32 0x43000000#32) (fun d : Fin 128 => y' ⟨d.val, hb d⟩) d * g' d := by
  rw [projRow_q y v y' g g' n 0 4096 d (fun x => by omega) (by omega) rfl rfl]
  simp only [Nat.zero_add]
end

variable (V : (c : Dev nD) → (b : Ref sig .tc) → Buf (Elt Ideal) ((c : Thread nD τ).loc b))

/-- What the projection leaves in its block, at a row and a column. -/
theorem proj_out (c : Dev nD) (t : Fin cfg0.N) (r : Fin 512) (n : Fin 6144) :
    (outsAt0 V c t : FVec Ideal S512x6144 .bf16) (ix2 r n)
      = projRow (rowK (rowOf (iblk0 V c 0 t : FVec Ideal S512x2048 .f32) r) (iblk0 V c 1 t) (iblk0 V c 3 t)) (rowV (rowOf (iblk0 V c 0 t : FVec Ideal S512x2048 .f32) r) (iblk0 V c 1 t) (iblk0 V c 3 t))
          (rowQ (rowOf (iblk0 V c 0 t : FVec Ideal S512x2048 .f32) r) (iblk0 V c 1 t) (iblk0 V c 4 t)) (kGain (iblk0 V c 2 t)) (qGain (iblk0 V c 2 t)) n := by
  unfold Gen.outsAt0
  frame_out
  simp (decide := true) only [↓View.readCov_skip, View.readCov_cons_toLoadRect]
  simp only [k0_pay34, k0_pay35]
  generalize hY : k0_pay7 (F := Ideal) _ _ = Y
  generalize hV : k0_pay3 (F := Ideal) _ _ = Vl
  generalize hY2 : k0_pay32 (F := Ideal) _ _ = Y2
  generalize hg : k0_pay8 (F := Ideal) _ = g
  generalize hg2 : k0_pay33 (F := Ideal) _ = g2
  have aY : rowK (rowOf (iblk0 V c 0 t : FVec Ideal S512x2048 .f32) r) (iblk0 V c 1 t) (iblk0 V c 3 t) = fun i => Y (ix2 r i) := funext fun i => by
    rw [← hY]
    pointwise [k0_pay7, k0_pay5, k0_pay4]
    rfl
  have aV : rowV (rowOf (iblk0 V c 0 t : FVec Ideal S512x2048 .f32) r) (iblk0 V c 1 t) (iblk0 V c 3 t) = fun i => Vl (ix2 r i) := funext fun i => by
    rw [← hV]
    pointwise [k0_pay3, k0_pay5, k0_pay4]
    rfl
  have aQ : rowQ (rowOf (iblk0 V c 0 t : FVec Ideal S512x2048 .f32) r) (iblk0 V c 1 t) (iblk0 V c 4 t) = fun i => Y2 (ix2 r i) := funext fun i => by
    rw [← hY2]
    pointwise [k0_pay32, k0_pay6, k0_pay4]
    rfl
  have ag : ∀ d : Fin 128, g (ix2 0 d) = kGain (iblk0 V c 2 t) d := fun d => by
    rw [← hg]
    pointwise [k0_pay8]
    rfl
  have ag2 : ∀ d : Fin 128, g2 (ix2 0 d) = qGain (iblk0 V c 2 t) d := fun d => by
    rw [← hg2]
    pointwise [k0_pay33]
    rfl
  refine Eq.trans ?_ (congr (congr (congrArg (fun y v y' => projRow y v y' (kGain (iblk0 V c 2 t)) (qGain (iblk0 V c 2 t)) n) aY) aV) aQ).symm
  beta_reduce
  clear hY hV hY2 hg hg2 aY aV aQ
  canon_tiles x h using (View.cover_of_tiledBy _ ![512, 128] (by sl_kernel_rfl) _)
  case piece0 =>
    obtain ⟨a, b, rfl⟩ : ∃ (a : Fin 512) (b : Fin 2048), x = ix2 a b := ⟨x 0, x 1, eq_ix2 x⟩
    obtain rfl : r = a := Fin.ext h0
    exact (projRow_v _ (fun i => Vl (ix2 r i)) _ _ _ n b h1).symm
  all_goals
    obtain ⟨a, b, rfl⟩ : ∃ (a : Fin 512) (b : Fin 128), x = ix2 a b := ⟨x 0, x 1, eq_ix2 x⟩
    obtain rfl : r = a := Fin.ext h0
    open_payloads
    pointwise
    try simp only [ag, ag2]
    first
      | exact Eq.symm (projRow_q _ _ _ _ _ n _ _ b (fun x => by omega) h1 (by decide) (by decide))
      | exact Eq.symm (projRow_k _ _ _ _ _ n _ b (fun x => by omega) h1 (by decide))
      | exact Eq.symm (projRow_q0 _ _ _ _ _ n b (fun x => by omega) h1)
      | exact Eq.symm (projRow_k0 _ _ _ _ _ n b (fun x => by omega) (Eq.trans h1 (Nat.zero_add _)))
      | exact Eq.symm (projRow_k0 _ _ _ _ _ n b (fun x => by omega) h1)

/-- The block indices of the projection's windows. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

section
variable (X : FVec Ideal S32768x2048 .f32) (G : FVec Ideal S2x2048 .f32) (S : FVec Ideal S2x128 .f32) (W : FVec Ideal S2048x4096 .bf16) (W' : FVec Ideal S2048x2048 .bf16)

/-- The projection's row of frame `a`. -/
def proj (a : Fin 32768) : Fin 6144 → EReal :=
  projRow (rowK (rowOf X a) G W) (rowV (rowOf X a) G W) (rowQ (rowOf X a) G W') (kGain S) (qGain S)

/-- The projection's array. -/
def projArr : FVec Ideal S32768x6144 .bf16 := fun i => proj X G S W W' (i 0) (i 1)
end

/-- The projection's array after its region, from what its operands held before. -/
theorem proj_final (c : Dev nD) : ((dat0 V c).arrAt 5 cfg0.N : FVec Ideal S32768x6144 .bf16)
    = projArr (V c (Pipeline.arrRef spec0 0)) (V c (Pipeline.arrRef spec0 1)) (V c (Pipeline.arrRef spec0 2)) (V c (Pipeline.arrRef spec0 3)) (V c (Pipeline.arrRef spec0 4)) := by
  refine (dat0 V c).arrAt_eq_of_covers 5 _ (by decide +kernel) fun t hf y => ?_
  blk_simp
  rw [after0_5]
  have e1 : (iblk0 V c 1 t : FVec Ideal S2x2048 .f32) = V c (Pipeline.arrRef spec0 1) := funext fun i => by
    blk_point [iblk0, idx0 t]
  have e2 : (iblk0 V c 2 t : FVec Ideal S2x128 .f32) = V c (Pipeline.arrRef spec0 2) := funext fun i => by
    blk_point [iblk0, idx0 t]
  have e3 : (iblk0 V c 3 t : FVec Ideal S2048x4096 .bf16) = V c (Pipeline.arrRef spec0 3) := funext fun i => by
    blk_point [iblk0, idx0 t]
  have e4 : (iblk0 V c 4 t : FVec Ideal S2048x2048 .bf16) = V c (Pipeline.arrRef spec0 4) := funext fun i => by
    blk_point [iblk0, idx0 t]
  obtain ⟨r, n, rfl⟩ : ∃ (r : Fin 512) (n : Fin 6144), y = ix2 r n := ⟨y 0, y 1, eq_ix2 y⟩
  have ht : t.val < 64 := lt_of_lt_of_eq t.isLt (show cfg0.N = 64 from N_0)
  have hb : t.val * 512 + r.val < 32768 := by have := r.isLt; omega
  have e0 : rowOf (iblk0 V c 0 t : FVec Ideal S512x2048 .f32) r = rowOf (V c (Pipeline.arrRef spec0 0) : FVec Ideal S32768x2048 .f32) ⟨t.val * 512 + r.val, hb⟩ := funext fun l => by
    unfold rowOf
    blk_point [iblk0, idx0 t]
  have he : ((cfg0.win 5).blk t).view.emb (ix2 r n) = (ix2 (⟨t.val * 512 + r.val, hb⟩ : Fin 32768) n : S32768x6144.Idx) := by
    blk_ext [idx0 t]
  rw [he]
  refine (proj_out V c t r n).trans ?_
  rw [e0, e1, e2, e3, e4]
  rfl

end Cert.KernelIdeal.Mixer
-- ==== Proof.Bias.lean ====
/- The bias table: a skewed copy of each head's row of relative biases, masked to the band. -/
module

public import proofs.«01_k».proof.Proof.Gen.KernelIdeal.Frame
public import Idealize.ShloMosaic.Lib.Claim
public import Idealize.ShloMosaic.Lib.Pipeline.ValueKit
public import Idealize.ShloMosaic.Lib.Pointwise
public import proofs.«01_k».proof.Proof.Forms

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen Cert.Forms

/-- One step of the skew: the rows with the bit `k` set, rolled by `k`. -/
def rolled (k : BitVec 32) (x : FVec Ideal S256x1024 .f32) : FVec Ideal S256x1024 .f32 :=
  select (cmpi .ne (andi (iota .tc S256x1024 32 [0] iota_S256x1024_d0_w32) (broadcast S256x1024 k)) (broadcast S256x1024 0#32))
    (dynamicRotate 1 k none x rotates_S256x1024_d1) x

/-- The row before the skew, on every row. -/
def unrolled (v : Vec Ideal S1x1x1024 .f32) : FVec Ideal S256x1024 .f32 :=
  broadcastTo S256x1024 (shapeCast S1x1024 (mulf (shapeCast S1x1024 v shapeCasts_S1x1x1024_S1x1024)
    (broadcast S1x1024 (Named.named (F := Ideal) κ "log2e" (φ := .f32) 0x3FB8AA3B#32))) shapeCasts_S1x1024_S1x1024) broadcasts_S1x1024_S256x1024

theorem pay2_eq (v : Vec Ideal S1x1x1024 .f32) : k1_pay2 v = rolled 16#32 (rolled 8#32 (rolled 4#32 (rolled 2#32 (rolled 1#32 (unrolled v))))) := rfl

theorem pay4_eq (v : FVec Ideal S256x1024 .f32) :
    k1_pay4 (iota .tc S256x1024 32 [0] iota_S256x1024_d0_w32) v k1_pay3 = rolled 128#32 (rolled 64#32 (rolled 32#32 v)) := rfl

/-- The row `g` turned by `r mod b` places, at `n`. -/
def skew (g : Fin 1024 → EReal) (b : ℕ) (r : Fin 256) (n : Fin 1024) : EReal :=
  g ⟨(n.val + 1024 - r.val % b) % 1024, Nat.mod_lt _ (by decide)⟩

/-! A row's bit `b`, as the kernel reads it. -/

theorem bit1 : ∀ r : Fin 256, IntOp.cmpi .ne (IntOp.andi (BitVec.ofNat 32 r.val) 1#32) 0#32 = if r.val / 1 % 2 = 1 then 1#1 else 0#1 := by decide +kernel
theorem bit2 : ∀ r : Fin 256, IntOp.cmpi .ne (IntOp.andi (BitVec.ofNat 32 r.val) 2#32) 0#32 = if r.val / 2 % 2 = 1 then 1#1 else 0#1 := by decide +kernel
theorem bit4 : ∀ r : Fin 256, IntOp.cmpi .ne (IntOp.andi (BitVec.ofNat 32 r.val) 4#32) 0#32 = if r.val / 4 % 2 = 1 then 1#1 else 0#1 := by decide +kernel
theorem bit8 : ∀ r : Fin 256, IntOp.cmpi .ne (IntOp.andi (BitVec.ofNat 32 r.val) 8#32) 0#32 = if r.val / 8 % 2 = 1 then 1#1 else 0#1 := by decide +kernel
theorem bit16 : ∀ r : Fin 256, IntOp.cmpi .ne (IntOp.andi (BitVec.ofNat 32 r.val) 16#32) 0#32 = if r.val / 16 % 2 = 1 then 1#1 else 0#1 := by decide +kernel
theorem bit32 : ∀ r : Fin 256, IntOp.cmpi .ne (IntOp.andi (BitVec.ofNat 32 r.val) 32#32) 0#32 = if r.val / 32 % 2 = 1 then 1#1 else 0#1 := by decide +kernel
theorem bit64 : ∀ r : Fin 256, IntOp.cmpi .ne (IntOp.andi (BitVec.ofNat 32 r.val) 64#32) 0#32 = if r.val / 64 % 2 = 1 then 1#1 else 0#1 := by decide +kernel
theorem bit128 : ∀ r : Fin 256, IntOp.cmpi .ne (IntOp.andi (BitVec.ofNat 32 r.val) 128#32) 0#32 = if r.val / 128 % 2 = 1 then 1#1 else 0#1 := by decide +kernel

section
variable (g : Fin 1024 → EReal) (x : FVec Ideal S256x1024 .f32)

/-- A step of the skew: the rows with the bit `b` set turn by `b` more. -/
theorem roll_step (b : ℕ) (hx : ∀ r n, x (ix2 r n) = skew g b r n) (m : BitVec 1) (r : Fin 256) (n : Fin 1024) (h0 : 0 < b) (hb : b ≤ 128)
    (hm : m = if r.val / b % 2 = 1 then 1#1 else 0#1) :
    Scalar.select m (x (ix2 r ⟨(n.val + 1024 - b) % 1024, Nat.mod_lt _ (by decide)⟩)) (x (ix2 r n)) = skew g (2 * b) r n := by
  have h1 : r.val % (2 * b) = r.val % b + b * (r.val / b % 2) := by rw [mul_comm 2 b]; exact Nat.mod_mul
  have h2 : r.val % b < b := Nat.mod_lt _ h0
  subst hm
  unfold Scalar.select
  by_cases h : r.val / b % 2 = 1
  · rw [if_pos h, if_pos (by decide), hx]
    refine congrArg g (Fin.ext ?_)
    show ((n.val + 1024 - b) % 1024 + 1024 - r.val % b) % 1024 = (n.val + 1024 - r.val % (2 * b)) % 1024
    rw [h1, h, mul_one]
    have := n.isLt
    omega
  · rw [if_neg h, if_neg (by decide), hx]
    refine congrArg g (Fin.ext ?_)
    show (n.val + 1024 - r.val % b) % 1024 = (n.val + 1024 - r.val % (2 * b)) % 1024
    rw [h1, show r.val / b % 2 = 0 by omega, mul_zero, add_zero]

theorem rolled1 (hx : ∀ r n, x (ix2 r n) = skew g 1 r n) : ∀ r n, rolled 1#32 x (ix2 r n) = skew g 2 r n := fun r n => by
  pointwise [rolled]
  exact roll_step g x 1 hx _ r n (by decide) (by decide) (bit1 r)

theorem rolled2 (hx : ∀ r n, x (ix2 r n) = skew g 2 r n) : ∀ r n, rolled 2#32 x (ix2 r n) = skew g 4 r n := fun r n => by
  pointwise [rolled]
  exact roll_step g x 2 hx _ r n (by decide) (by decide) (bit2 r)

theorem rolled4 (hx : ∀ r n, x (ix2 r n) = skew g 4 r n) : ∀ r n, rolled 4#32 x (ix2 r n) = skew g 8 r n := fun r n => by
  pointwise [rolled]
  exact roll_step g x 4 hx _ r n (by decide) (by decide) (bit4 r)

theorem rolled8 (hx : ∀ r n, x (ix2 r n) = skew g 8 r n) : ∀ r n, rolled 8#32 x (ix2 r n) = skew g 16 r n := fun r n => by
  pointwise [rolled]
  exact roll_step g x 8 hx _ r n (by decide) (by decide) (bit8 r)

theorem rolled16 (hx : ∀ r n, x (ix2 r n) = skew g 16 r n) : ∀ r n, rolled 16#32 x (ix2 r n) = skew g 32 r n := fun r n => by
  pointwise [rolled]
  exact roll_step g x 16 hx _ r n (by decide) (by decide) (bit16 r)

theorem rolled32 (hx : ∀ r n, x (ix2 r n) = skew g 32 r n) : ∀ r n, rolled 32#32 x (ix2 r n) = skew g 64 r n := fun r n => by
  pointwise [rolled]
  exact roll_step g x 32 hx _ r n (by decide) (by decide) (bit32 r)

theorem rolled64 (hx : ∀ r n, x (ix2 r n) = skew g 64 r n) : ∀ r n, rolled 64#32 x (ix2 r n) = skew g 128 r n := fun r n => by
  pointwise [rolled]
  exact roll_step g x 64 hx _ r n (by decide) (by decide) (bit64 r)

theorem rolled128 (hx : ∀ r n, x (ix2 r n) = skew g 128 r n) : ∀ r n, rolled 128#32 x (ix2 r n) = skew g 256 r n := fun r n => by
  pointwise [rolled]
  exact roll_step g x 128 hx _ r n (by decide) (by decide) (bit128 r)

end

/-- The named constant `log2e`. -/
def log2e : EReal := Named.named (F := Ideal) κ "log2e" (φ := .f32) 0x3FB8AA3B#32

/-- The whole skew: row `r` is the row `g` turned by `r` places. -/
theorem skewed (v : Vec Ideal S1x1x1024 .f32) (r : Fin 256) (n : Fin 1024) :
    k1_pay21 v (ix2 r n) = (v : FVec Ideal S1x1x1024 .f32) (ix3 0 0 ⟨(n.val + 1024 - r.val) % 1024, Nat.mod_lt _ (by decide)⟩) * log2e := by
  have h : ∀ r n, unrolled v (ix2 r n) = skew (fun n => (v : FVec Ideal S1x1x1024 .f32) (ix3 0 0 n) * log2e) 1 r n := fun r n => by
    have e : (⟨(n.val + 1024 - r.val % 1) % 1024, Nat.mod_lt _ (by decide)⟩ : Fin 1024) = n := Fin.ext (by
      show (n.val + 1024 - r.val % 1) % 1024 = n.val
      have := n.isLt
      omega)
    unfold skew
    rw [e]
    pointwise [unrolled]
    rfl
  have h' := rolled128 _ _ (rolled64 _ _ (rolled32 _ _ (rolled16 _ _ (rolled8 _ _ (rolled4 _ _ (rolled2 _ _ (rolled1 _ _ h))))))) r n
  have e : k1_pay21 v = rolled 128#32 (rolled 64#32 (rolled 32#32 (k1_pay2 (View.ld v r1_0)))) := rfl
  have e' : View.ld v r1_0 = v := View.ld_unit_zero (by decide) _ _
  rw [e, e', pay2_eq, h']
  refine congrArg (fun n => (v : FVec Ideal S1x1x1024 .f32) (ix3 0 0 n) * log2e) (Fin.ext ?_)
  show (n.val + 1024 - r.val % (2 * 128)) % 1024 = (n.val + 1024 - r.val) % 1024
  rw [show r.val % (2 * 128) = r.val from Nat.mod_eq_of_lt r.isLt]

/-- The floor of a quotient by 64, as the kernel takes it. -/
def fdiv64 (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem fdiv64_at : ∀ i : Fin 256, fdiv64 (BitVec.ofNat 32 i.val) = BitVec.ofNat 32 (i.val / 64) := by decide +kernel

/-- The kernel's mask at a key and a query of a group. -/
def maskBit (j off q : BitVec 32) : BitVec 1 :=
  IntOp.andi (IntOp.cmpi .sge (IntOp.subi (IntOp.addi j off) (IntOp.muli q 64#32)) 0#32)
    (IntOp.cmpi .slt (IntOp.subi (IntOp.addi j off) (IntOp.muli q 64#32)) 576#32)

/-- A key of the window is in the band of a query: its chunk is one of the nine that end with the query's. -/
def InBand (j i : ℕ) : Prop := i / 64 * 64 ≤ j ∧ j < i / 64 * 64 + 576

instance (j i : ℕ) : Decidable (InBand j i) := by unfold InBand; infer_instance

theorem mask_at : ∀ (b : Fin 3) (j : Fin 256) (q : Fin 4),
    maskBit (BitVec.ofNat 32 j.val) (BitVec.ofNat 32 (b.val * 256)) (BitVec.ofNat 32 q.val)
      = if q.val * 64 ≤ b.val * 256 + j.val ∧ b.val * 256 + j.val < q.val * 64 + 576 then 1#1 else 0#1 := by decide +kernel

/-- The pattern of minus infinity. -/
theorem ofBits_negInf : Ideal.ofBits .f32 0xFF800000#32 = ⊥ := by
  simp [Ideal.ofBits, Ideal.ieee]

/-- The bias of key `j` of the window and query `i` of the group, from the row `g`. -/
def bandBias (g : Fin 1024 → EReal) (j : Fin 768) (i : Fin 256) : EReal :=
  if InBand j.val i.val then g ⟨768 + i.val - j.val, by have := i.isLt; have := j.isLt; omega⟩ * log2e else ⊥

/-- A masked entry of the block `b`. -/
theorem masked_at (x : FVec Ideal S256x1024 .f32) (g : Fin 1024 → EReal)
    (hx : ∀ (r : Fin 256) (n : Fin 1024), x (ix2 r n) = g ⟨(n.val + 1024 - r.val) % 1024, Nat.mod_lt _ (by decide)⟩ * log2e) (b : Fin 3) (r i : Fin 256)
    (j : Fin 768) (hj : j.val = b.val * 256 + r.val) (n : Fin 1024) (hn : n.val = 768 - b.val * 256 + i.val) :
    Scalar.select (maskBit (BitVec.ofNat 32 r.val) (BitVec.ofNat 32 (b.val * 256)) (fdiv64 (BitVec.ofNat 32 i.val))) (x (ix2 r n)) (Ideal.ofBits .f32 0xFF800000#32)
      = bandBias g j i := by
  have hi := i.isLt
  have hr := r.isLt
  rw [fdiv64_at, mask_at b r ⟨i.val / 64, by omega⟩, hx, ofBits_negInf]
  have e : (InBand j.val i.val) = (i.val / 64 * 64 ≤ b.val * 256 + r.val ∧ b.val * 256 + r.val < i.val / 64 * 64 + 576) := by
    unfold InBand
    rw [hj]
  unfold bandBias Scalar.select
  by_cases h : i.val / 64 * 64 ≤ b.val * 256 + r.val ∧ b.val * 256 + r.val < i.val / 64 * 64 + 576
  · rw [if_pos h, if_pos (by decide), if_pos (e ▸ h)]
    refine congrArg (fun k => g k * log2e) (Fin.ext ?_)
    show (n.val + 1024 - r.val) % 1024 = 768 + i.val - j.val
    have := b.isLt
    omega
  · rw [if_neg h, if_neg (by decide), if_neg (e ▸ h)]

variable (V : (c : Dev nD) → (b : Ref sig .tc) → Buf (Elt Ideal) ((c : Thread nD τ).loc b))

/-- The block indices of the table's windows. -/
theorem idx1 : ∀ t : Fin cfg1.N, win1_0.index t = ![t.val, 0, 0] ∧ win1_1.index t = ![t.val, 0, 0] :=
  (by decide +kernel : ∀ t : Fin grid1.N, _)

/-- What a point leaves in its block. -/
theorem bias_out (v : Vec Ideal S1x1x1024 .f32) (j : Fin 768) (i : Fin 256) :
    (out1_1 v : FVec Ideal S1x768x256 .f32) (ix3 0 j i) = bandBias (fun n => (v : FVec Ideal S1x1x1024 .f32) (ix3 0 0 n)) j i := by
  have hs := skewed v
  unfold out1_1
  have e5 : k1_pay5 (F := Ideal) (k1_pay18 v) (k1_pay19 v) (k1_pay20 v) = extractStridedSlice S256x256 ![0, 768] (k1_pay21 v) slices_S256x1024_o0_768_S256x256 := rfl
  rw [e5]
  generalize k1_pay21 v = x at hs ⊢
  canon_tiles y h
  all_goals
    obtain ⟨a, r, n, rfl⟩ : ∃ (a : Fin 1) (r : Fin 256) (n : Fin 256), y = ix3 a r n := ⟨y 0, y 1, y 2, eq_ix3 y⟩
    obtain rfl : i = n := Fin.ext h2
  case piece0 =>
    pointwise [k1_pay1, k1_pay15, k1_pay16, k1_pay17]
    exact masked_at x _ hs 2 r i j h1 _ rfl
  case piece1 =>
    pointwise [k1_pay14, k1_pay11, k1_pay12, k1_pay13]
    exact masked_at x _ hs 1 r i j h1 _ rfl
  case piece2 =>
    pointwise [k1_pay10, k1_pay6, k1_pay7, k1_pay8, k1_pay9]
    exact masked_at x _ hs 0 r i j (by have e : j.val = r.val := h1; simpa using e) _ (by simp)

/-- The table of all heads, from the heads' rows. -/
def biasArr (G : FVec Ideal S16x1x1024 .f32) : FVec Ideal S16x768x256 .f32 :=
  fun i => bandBias (fun n => G (ix3 (i 0) 0 n)) (i 1) (i 2)

/-- The table after its region, from what its operand held before. -/
theorem bias_final (c : Dev nD) : ((dat1 V c).arrAt 1 cfg1.N : FVec Ideal S16x768x256 .f32) = biasArr (V c (Pipeline.arrRef spec1 0)) := by
  refine (dat1 V c).arrAt_eq_of_covers 1 _ (by decide +kernel) fun t hf y => ?_
  blk_simp
  rw [after1_1]
  obtain ⟨a, j, i, rfl⟩ : ∃ (a : Fin 1) (j : Fin 768) (i : Fin 256), y = ix3 a j i := ⟨y 0, y 1, y 2, eq_ix3 y⟩
  obtain rfl : a = 0 := Subsingleton.elim _ _
  have ht : t.val < 16 := lt_of_lt_of_eq t.isLt (show cfg1.N = 16 from N_1)
  have he : ((cfg1.win 1).blk t).view.emb (ix3 0 j i) = (ix3 (⟨t.val, ht⟩ : Fin 16) j i : S16x768x256.Idx) := by
    blk_ext [idx1 t]
  rw [he]
  refine (bias_out _ j i).trans ?_
  refine congrArg (fun g => bandBias g j i) (funext fun n => ?_)
  blk_point [iblk1, idx1 t]

end Cert.KernelIdeal.Mixer
-- ==== Proof.Band.lean ====
/- The banded attention of one head: sixteen groups of queries, each over a window of at most three blocks of keys. -/
module

public import proofs.«01_k».proof.Proof.Gen.KernelIdeal.Frame
public import Idealize.ShloMosaic.Lib.Claim
public import Idealize.ShloMosaic.Lib.Pipeline.ReadBack
public import Idealize.ShloMosaic.Lib.Pipeline.ValueKit
public import Idealize.ShloMosaic.Lib.Pointwise
public import proofs.«01_k».proof.Proof.Bias

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen Cert.Forms

/-- A block of scores, keys down and queries across: the products of rows with the bias added. -/
def score (k q : Vec Ideal S1x256x128 .bf16) (b : Vec Ideal S1x256x256 .f32) : FVec Ideal S256x256 .f32 := k2_pay22 k q b

theorem score_apply (k q : Vec Ideal S1x256x128 .bf16) (b : Vec Ideal S1x256x256 .f32) (j i : Fin 256) :
    score k q b (ix2 j i) = (∑ d : Fin 128, (k (ix3 0 j d) : EReal) * q (ix3 0 i d)) + b (ix3 0 j i) := by
  unfold score
  pointwise [k2_pay22]

/-- The greatest of the rows eight apart. -/
def fold8 (s : FVec Ideal S256x256 .f32) : FVec Ideal S8x256 .f32 :=
  multiReduction .maximumf [0] S8x256 (shapeCast S32x8x256 s shapeCasts_S256x256_S32x8x256) 0xFF800000#32 (by decide) k0_part1._proof_5 k2_part4._proof_23

theorem fold8_apply (s : FVec Ideal S256x256 .f32) (a : Fin 8) (i : Fin 256) :
    fold8 s (ix2 a i) = (Finset.univ : Finset (Fin 32)).sup fun x => (s (ix2 ⟨x.val * 8 + a.val, by omega⟩ i) : EReal) := by
  unfold fold8
  pointwise
  rw [ofBits_negInf]
  rfl

/-- The greatest of eight rows. -/
def peak (x : FVec Ideal S8x256 .f32) : FVec Ideal S1x256 .f32 :=
  shapeCast S1x256 (multiReduction .maximumf [0] S256 x 0xFF800000#32 (by decide) k0_part1._proof_5 k2_part4._proof_23) shapeCasts_S256_S1x256

theorem peak_apply (x : FVec Ideal S8x256 .f32) (i : Fin 256) :
    peak x (ix2 0 i) = (Finset.univ : Finset (Fin 8)).sup fun a => (x (ix2 a i) : EReal) := by
  unfold peak
  pointwise
  rw [ofBits_negInf]
  rfl

/-- The greatest of a block's rows is under `u` when all are. -/
theorem fold8_le (s : FVec Ideal S256x256 .f32) (i : Fin 256) (u : EReal) :
    (∀ a : Fin 8, fold8 s (ix2 a i) ≤ u) ↔ ∀ j : Fin 256, s (ix2 j i) ≤ u := by
  constructor
  · intro h j
    have := h ⟨j.val % 8, Nat.mod_lt _ (by decide)⟩
    rw [fold8_apply] at this
    refine le_trans (le_of_eq ?_) ((Finset.le_sup (f := fun x : Fin 32 => (s (ix2 ⟨x.val * 8 + j.val % 8, by omega⟩ i) : EReal)) (Finset.mem_univ ⟨j.val / 8, by omega⟩)).trans this)
    exact congrArg (fun z => s (ix2 z i)) (Fin.ext (by show j.val = j.val / 8 * 8 + j.val % 8; omega))
  · intro h a
    rw [fold8_apply]
    exact Finset.sup_le fun x _ => h _

/-- The weights of a block of scores, from the greatest score of each query. -/
def weight (s : FVec Ideal S256x256 .f32) (m : FVec Ideal S1x256 .f32) : FVec Ideal S256x256 .bf16 :=
  shapeCast S256x256 (exp2 (truncf .bf16 (subf (shapeCast S256x256 s shapeCasts_S256x256_S256x256) (broadcastTo S256x256 m broadcasts_S1x256_S256x256)) (by decide))) shapeCasts_S256x256_S256x256

theorem weight_apply (s : FVec Ideal S256x256 .f32) (m : FVec Ideal S1x256 .f32) (j i : Fin 256) :
    weight s m (ix2 j i) = Ideal.exp2 ((s (ix2 j i) : EReal) - m (ix2 0 i)) := by
  unfold weight
  pointwise
  rfl

/-! ## What is stored in pieces, read back -/

theorem mem2 {R C : ℕ} (o p n m : ℕ) (inb) (y : (⟨2, ![R, C]⟩ : Shape).Idx) (h0 : o ≤ (y 0).val ∧ (y 0).val < o + n) (h1 : p ≤ (y 1).val ∧ (y 1).val < p + m) :
    y ∈ (Rect.unit (s := ⟨2, ![R, C]⟩) ![o, p] ![n, m] inb).set := by
  refine (LoadRect.mem_set _).mpr (Fin.forall_fin_two.mpr ⟨⟨(y 0).val - o, ?_, ?_⟩, ⟨(y 1).val - p, ?_, ?_⟩⟩)
  · show (y 0).val - o < n; omega
  · show (y 0).val = o + 1 * ((y 0).val - o); omega
  · show (y 1).val - p < m; omega
  · show (y 1).val = p + 1 * ((y 1).val - p); omega

section
variable {sp : Space} (v : View sig .tc sp S768x256 .bf16) (w2 w1 w0 : FVec Ideal S256x256 .bf16) (G : Fin 768 → Fin 256 → EReal)

/-- One stored block of rows is a block of `G`. -/
theorem rows_of (w : FVec Ideal S256x256 .bf16) (o : ℕ) (inb) (ho : o + 256 ≤ 768)
    (h : ∀ a b : Fin 256, w (ix2 a b) = G ⟨o + a.val, by omega⟩ b) (x : (Rect.unit (s := S768x256) ![o, 0] ![256, 256] inb).shape.Idx) :
    w x = G ((Rect.unit (s := S768x256) ![o, 0] ![256, 256] inb).emb x 0) ((Rect.unit (s := S768x256) ![o, 0] ![256, 256] inb).emb x 1) := by
  obtain ⟨a, b, rfl⟩ : ∃ (a b : Fin 256), x = ix2 a b := ⟨x 0, x 1, eq_ix2 x⟩
  refine (h a b).trans (congrArg₂ G (Fin.ext ?_) (Fin.ext ?_))
  · show o + a.val = o + 1 * a.val; omega
  · show b.val = 0 + 1 * b.val; omega

theorem read3 (i2 i1 i0 ib) (L)
    (h0 : ∀ a b : Fin 256, w0 (ix2 a b) = G ⟨0 + a.val, by omega⟩ b)
    (h1 : ∀ a b : Fin 256, w1 (ix2 a b) = G ⟨256 + a.val, by omega⟩ b)
    (h2 : ∀ a b : Fin 256, w2 (ix2 a b) = G ⟨512 + a.val, by omega⟩ b) (j : Fin 768) (i : Fin 256) :
    View.readCov (Val := Elt Ideal) v (⟨Rect.unit ![512, 0] ![256, 256] i2, w2⟩ :: ⟨Rect.unit ![256, 0] ![256, 256] i1, w1⟩ ::
      ⟨Rect.unit ![0, 0] ![256, 256] i0, w0⟩ :: L) (Rect.unit (s := S768x256) ![0, 0] ![768, 256] ib).toLoadRect (ix2 j i) = G j i := by
  rw [View.readCov_eq_canon']
  refine (View.canon_append_of_piecesOf (Val := Elt Ideal) (s := S768x256) (e := .bf16) (fun y => G (y 0) (y 1)) L
    [⟨Rect.unit ![512, 0] ![256, 256] i2, w2⟩, ⟨Rect.unit ![256, 0] ![256, 256] i1, w1⟩, ⟨Rect.unit ![0, 0] ![256, 256] i0, w0⟩]
    ⟨rows_of G w2 512 i2 (by decide) h2, rows_of G w1 256 i1 (by decide) h1, rows_of G w0 0 i0 (by decide) h0, trivial⟩ _ ?_).trans ?_
  · by_cases c2 : 512 ≤ j.val
    · refine ⟨_, List.mem_cons_self, mem2 _ _ _ _ (by assumption) _ ?_ ?_⟩
      · show 512 ≤ 0 + 1 * j.val ∧ 0 + 1 * j.val < 512 + 256; omega
      · show 0 ≤ 0 + 1 * i.val ∧ 0 + 1 * i.val < 0 + 256; omega
    · by_cases c1 : 256 ≤ j.val
      · refine ⟨_, List.mem_cons_of_mem _ List.mem_cons_self, mem2 _ _ _ _ (by assumption) _ ?_ ?_⟩
        · show 256 ≤ 0 + 1 * j.val ∧ 0 + 1 * j.val < 256 + 256; omega
        · show 0 ≤ 0 + 1 * i.val ∧ 0 + 1 * i.val < 0 + 256; omega
      · refine ⟨_, List.mem_cons_of_mem _ (List.mem_cons_of_mem _ List.mem_cons_self), mem2 _ _ _ _ (by assumption) _ ?_ ?_⟩
        · show 0 ≤ 0 + 1 * j.val ∧ 0 + 1 * j.val < 0 + 256; omega
        · show 0 ≤ 0 + 1 * i.val ∧ 0 + 1 * i.val < 0 + 256; omega
  · refine congrArg₂ G (Fin.ext ?_) (Fin.ext ?_)
    · show 0 + 1 * j.val = j.val; omega
    · show 0 + 1 * i.val = i.val; omega

theorem read2 (i2 i1 ib) (L)
    (h1 : ∀ a b : Fin 256, w1 (ix2 a b) = G ⟨256 + a.val, by omega⟩ b)
    (h2 : ∀ a b : Fin 256, w2 (ix2 a b) = G ⟨512 + a.val, by omega⟩ b) (j : Fin 512) (i : Fin 256) :
    View.readCov (Val := Elt Ideal) v (⟨Rect.unit ![512, 0] ![256, 256] i2, w2⟩ :: ⟨Rect.unit ![256, 0] ![256, 256] i1, w1⟩ :: L)
      (Rect.unit (s := S768x256) ![256, 0] ![512, 256] ib).toLoadRect (ix2 j i) = G ⟨256 + j.val, by omega⟩ i := by
  rw [View.readCov_eq_canon']
  refine (View.canon_append_of_piecesOf (Val := Elt Ideal) (s := S768x256) (e := .bf16) (fun y => G (y 0) (y 1)) L
    [⟨Rect.unit ![512, 0] ![256, 256] i2, w2⟩, ⟨Rect.unit ![256, 0] ![256, 256] i1, w1⟩]
    ⟨rows_of G w2 512 i2 (by decide) h2, rows_of G w1 256 i1 (by decide) h1, trivial⟩ _ ?_).trans ?_
  · by_cases c2 : 256 ≤ j.val
    · refine ⟨_, List.mem_cons_self, mem2 _ _ _ _ (by assumption) _ ?_ ?_⟩
      · show 512 ≤ 256 + 1 * j.val ∧ 256 + 1 * j.val < 512 + 256; omega
      · show 0 ≤ 0 + 1 * i.val ∧ 0 + 1 * i.val < 0 + 256; omega
    · refine ⟨_, List.mem_cons_of_mem _ List.mem_cons_self, mem2 _ _ _ _ (by assumption) _ ?_ ?_⟩
      · show 256 ≤ 256 + 1 * j.val ∧ 256 + 1 * j.val < 256 + 256; omega
      · show 0 ≤ 0 + 1 * i.val ∧ 0 + 1 * i.val < 0 + 256; omega
  · refine congrArg₂ G (Fin.ext ?_) (Fin.ext ?_)
    · show 256 + 1 * j.val = 256 + j.val; omega
    · show 0 + 1 * i.val = i.val; omega

end

/-! ## The values of all keys, and a row of ones under them -/

/-- A block of values, turned. -/
def vcol (b : Vec Ideal S1x256x128 .bf16) : FVec Ideal S128x256 .bf16 := k2_pay2 b

/-- The row of ones on fifteen rows of zeros. -/
def ones : FVec Ideal S16x4096 .bf16 := k2_pay21 (F := Ideal)

theorem ones_apply (a : Fin 16) (k : Fin 4096) : ones (ix2 a k) = if a.val = 0 then (1 : EReal) else 0 := by
  have h : ∀ a : Fin 16, IntOp.cmpi .eq (BitVec.ofNat 32 a.val) 0#32 = if a.val = 0 then 1#1 else 0#1 := by decide +kernel
  unfold ones
  pointwise [k2_pay21, h]
  by_cases h0 : a.val = 0
  · simp [h0, Scalar.select]
  · simp [h0, Scalar.select]

/-- The turned values over the ones. -/
def vt (X : FVec Ideal S1x4096x128 .bf16) (n : Fin 144) (k : Fin 4096) : EReal :=
  if h : n.val < 128 then X (ix3 0 k ⟨n.val, h⟩) else if n.val = 128 then 1 else 0

theorem vcol_of (X : FVec Ideal S1x4096x128 .bf16) (o : ℕ) (ho : o + 256 ≤ 4096) (i j) (x : (Rect.unit (s := S144x4096) ![0, o] ![128, 256] i).shape.Idx) :
    vcol (View.ld (Val := Elt Ideal) (S := S1x4096x128) (e' := .bf16) X (Rect.unit ![0, o, 0] ![1, 256, 128] j)) x =
      vt X ((Rect.unit (s := S144x4096) ![0, o] ![128, 256] i).emb x 0) ((Rect.unit (s := S144x4096) ![0, o] ![128, 256] i).emb x 1) := by
  obtain ⟨a, b, rfl⟩ : ∃ (a : Fin 128) (b : Fin 256), x = ix2 a b := ⟨x 0, x 1, eq_ix2 x⟩
  have h : (Rect.unit (s := S144x4096) ![0, o] ![128, 256] i).emb (ix2 a b) = ix2 (⟨a.val, by omega⟩ : Fin 144) (⟨o + b.val, by omega⟩ : Fin 4096) := by
    refine funext (Fin.forall_fin_two.mpr ⟨Fin.ext ?_, Fin.ext ?_⟩)
    · show 0 + 1 * a.val = a.val; omega
    · show o + 1 * b.val = o + b.val; omega
  rw [h]
  show _ = vt X ⟨a.val, _⟩ ⟨o + b.val, _⟩
  unfold vcol vt
  rw [dif_pos a.isLt]
  pointwise [k2_pay2]

theorem ones_of (X : FVec Ideal S1x4096x128 .bf16) (i) (x : (Rect.unit (s := S144x4096) ![128, 0] ![16, 4096] i).shape.Idx) :
    ones x = vt X ((Rect.unit (s := S144x4096) ![128, 0] ![16, 4096] i).emb x 0) ((Rect.unit (s := S144x4096) ![128, 0] ![16, 4096] i).emb x 1) := by
  obtain ⟨a, b, rfl⟩ : ∃ (a : Fin 16) (b : Fin 4096), x = ix2 a b := ⟨x 0, x 1, eq_ix2 x⟩
  have h : (Rect.unit (s := S144x4096) ![128, 0] ![16, 4096] i).emb (ix2 a b) = ix2 (⟨128 + a.val, by omega⟩ : Fin 144) b := by
    refine funext (Fin.forall_fin_two.mpr ⟨Fin.ext ?_, Fin.ext ?_⟩)
    · show 128 + 1 * a.val = 128 + a.val; omega
    · show 0 + 1 * b.val = b.val; omega
  rw [h, ones_apply]
  show _ = vt X ⟨128 + a.val, _⟩ b
  unfold vt
  rw [dif_neg (by show ¬ 128 + a.val < 128; omega)]
  by_cases h0 : a.val = 0
  · rw [if_pos h0, if_pos (by show 128 + a.val = 128; omega)]
  · rw [if_neg h0, if_neg (by show ¬ 128 + a.val = 128; omega)]

section
variable {sp : Space} (v : View sig .tc sp S144x4096 .bf16) (X : FVec Ideal S1x4096x128 .bf16)

theorem readv (k0 w : ℕ) (hw : k0 + w ≤ 4096) (io i15 j15 i14 j14 i13 j13 i12 j12 i11 j11 i10 j10 i9 j9 i8 j8 i7 j7 i6 j6 i5 j5 i4 j4 i3 j3 i2 j2 i1 j1 i0 j0 ib) (n : Fin 144) (k : Fin w) :
    View.readCov (Val := Elt Ideal) v [
      ⟨Rect.unit ![128, 0] ![16, 4096] io, ones⟩,
      ⟨Rect.unit ![0, 3840] ![128, 256] i15, vcol (View.ld (Val := Elt Ideal) (S := S1x4096x128) (e' := .bf16) X (Rect.unit ![0, 3840, 0] ![1, 256, 128] j15))⟩,
      ⟨Rect.unit ![0, 3584] ![128, 256] i14, vcol (View.ld (Val := Elt Ideal) (S := S1x4096x128) (e' := .bf16) X (Rect.unit ![0, 3584, 0] ![1, 256, 128] j14))⟩,
      ⟨Rect.unit ![0, 3328] ![128, 256] i13, vcol (View.ld (Val := Elt Ideal) (S := S1x4096x128) (e' := .bf16) X (Rect.unit ![0, 3328, 0] ![1, 256, 128] j13))⟩,
      ⟨Rect.unit ![0, 3072] ![128, 256] i12, vcol (View.ld (Val := Elt Ideal) (S := S1x4096x128) (e' := .bf16) X (Rect.unit ![0, 3072, 0] ![1, 256, 128] j12))⟩,
      ⟨Rect.unit ![0, 2816] ![128, 256] i11, vcol (View.ld (Val := Elt Ideal) (S := S1x4096x128) (e' := .bf16) X (Rect.unit ![0, 2816, 0] ![1, 256, 128] j11))⟩,
      ⟨Rect.unit ![0, 2560] ![128, 256] i10, vcol (View.ld (Val := Elt Ideal) (S := S1x4096x128) (e' := .bf16) X (Rect.unit ![0, 2560, 0] ![1, 256, 128] j10))⟩,
      ⟨Rect.unit ![0, 2304] ![128, 256] i9, vcol (View.ld (Val := Elt Ideal) (S := S1x4096x128) (e' := .bf16) X (Rect.unit ![0, 2304, 0] ![1, 256, 128] j9))⟩,
      ⟨Rect.unit ![0, 2048] ![128, 256] i8, vcol (View.ld (Val := Elt Ideal) (S := S1x4096x128) (e' := .bf16) X (Rect.unit ![0, 2048, 0] ![1, 256, 128] j8))⟩,
      ⟨Rect.unit ![0, 1792] ![128, 256] i7, vcol (View.ld (Val := Elt Ideal) (S := S1x4096x128) (e' := .bf16) X (Rect.unit ![0, 1792, 0] ![1, 256, 128] j7))⟩,
      ⟨Rect.unit ![0, 1536] ![128, 256] i6, vcol (View.ld (Val := Elt Ideal) (S := S1x4096x128) (e' := .bf16) X (Rect.unit ![0, 1536, 0] ![1, 256, 128] j6))⟩,
      ⟨Rect.unit ![0, 1280] ![128, 256] i5, vcol (View.ld (Val := Elt Ideal) (S := S1x4096x128) (e' := .bf16) X (Rect.unit ![0, 1280, 0] ![1, 256, 128] j5))⟩,
      ⟨Rect.unit ![0, 1024] ![128, 256] i4, vcol (View.ld (Val := Elt Ideal) (S := S1x4096x128) (e' := .bf16) X (Rect.unit ![0, 1024, 0] ![1, 256, 128] j4))⟩,
      ⟨Rect.unit ![0, 768] ![128, 256] i3, vcol (View.ld (Val := Elt Ideal) (S := S1x4096x128) (e' := .bf16) X (Rect.unit ![0, 768, 0] ![1, 256, 128] j3))⟩,
      ⟨Rect.unit ![0, 512] ![128, 256] i2, vcol (View.ld (Val := Elt Ideal) (S := S1x4096x128) (e' := .bf16) X (Rect.unit ![0, 512, 0] ![1, 256, 128] j2))⟩,
      ⟨Rect.unit ![0, 256] ![128, 256] i1, vcol (View.ld (Val := Elt Ideal) (S := S1x4096x128) (e' := .bf16) X (Rect.unit ![0, 256, 0] ![1, 256, 128] j1))⟩,
      ⟨Rect.unit ![0, 0] ![128, 256] i0, vcol (View.ld (Val := Elt Ideal) (S := S1x4096x128) (e' := .bf16) X (Rect.unit ![0, 0, 0] ![1, 256, 128] j0))⟩]
      (Rect.unit (s := S144x4096) ![0, k0] ![144, w] ib).toLoadRect (ix2 n k) = vt X n ⟨k0 + k.val, by omega⟩ := by
  rw [View.readCov_eq_canon']
  refine (View.canon_append_of_piecesOf (Val := Elt Ideal) (s := S144x4096) (e := .bf16) (fun y => vt X (y 0) (y 1)) []
    [
      ⟨Rect.unit ![128, 0] ![16, 4096] io, ones⟩,
      ⟨Rect.unit ![0, 3840] ![128, 256] i15, vcol (View.ld (Val := Elt Ideal) (S := S1x4096x128) (e' := .bf16) X (Rect.unit ![0, 3840, 0] ![1, 256, 128] j15))⟩,
      ⟨Rect.unit ![0, 3584] ![128, 256] i14, vcol (View.ld (Val := Elt Ideal) (S := S1x4096x128) (e' := .bf16) X (Rect.unit ![0, 3584, 0] ![1, 256, 128] j14))⟩,
      ⟨Rect.unit ![0, 3328] ![128, 256] i13, vcol (View.ld (Val := Elt Ideal) (S := S1x4096x128) (e' := .bf16) X (Rect.unit ![0, 3328, 0] ![1, 256, 128] j13))⟩,
      ⟨Rect.unit ![0, 3072] ![128, 256] i12, vcol (View.ld (Val := Elt Ideal) (S := S1x4096x128) (e' := .bf16) X (Rect.unit ![0, 3072, 0] ![1, 256, 128] j12))⟩,
      ⟨Rect.unit ![0, 2816] ![128, 256] i11, vcol (View.ld (Val := Elt Ideal) (S := S1x4096x128) (e' := .bf16) X (Rect.unit ![0, 2816, 0] ![1, 256, 128] j11))⟩,
      ⟨Rect.unit ![0, 2560] ![128, 256] i10, vcol (View.ld (Val := Elt Ideal) (S := S1x4096x128) (e' := .bf16) X (Rect.unit ![0, 2560, 0] ![1, 256, 128] j10))⟩,
      ⟨Rect.unit ![0, 2304] ![128, 256] i9, vcol (View.ld (Val := Elt Ideal) (S := S1x4096x128) (e' := .bf16) X (Rect.unit ![0, 2304, 0] ![1, 256, 128] j9))⟩,
      ⟨Rect.unit ![0, 2048] ![128, 256] i8, vcol (View.ld (Val := Elt Ideal) (S := S1x4096x128) (e' := .bf16) X (Rect.unit ![0, 2048, 0] ![1, 256, 128] j8))⟩,
      ⟨Rect.unit ![0, 1792] ![128, 256] i7, vcol (View.ld (Val := Elt Ideal) (S := S1x4096x128) (e' := .bf16) X (Rect.unit ![0, 1792, 0] ![1, 256, 128] j7))⟩,
      ⟨Rect.unit ![0, 1536] ![128, 256] i6, vcol (View.ld (Val := Elt Ideal) (S := S1x4096x128) (e' := .bf16) X (Rect.unit ![0, 1536, 0] ![1, 256, 128] j6))⟩,
      ⟨Rect.unit ![0, 1280] ![128, 256] i5, vcol (View.ld (Val := Elt Ideal) (S := S1x4096x128) (e' := .bf16) X (Rect.unit ![0, 1280, 0] ![1, 256, 128] j5))⟩,
      ⟨Rect.unit ![0, 1024] ![128, 256] i4, vcol (View.ld (Val := Elt Ideal) (S := S1x4096x128) (e' := .bf16) X (Rect.unit ![0, 1024, 0] ![1, 256, 128] j4))⟩,
      ⟨Rect.unit ![0, 768] ![128, 256] i3, vcol (View.ld (Val := Elt Ideal) (S := S1x4096x128) (e' := .bf16) X (Rect.unit ![0, 768, 0] ![1, 256, 128] j3))⟩,
      ⟨Rect.unit ![0, 512] ![128, 256] i2, vcol (View.ld (Val := Elt Ideal) (S := S1x4096x128) (e' := .bf16) X (Rect.unit ![0, 512, 0] ![1, 256, 128] j2))⟩,
      ⟨Rect.unit ![0, 256] ![128, 256] i1, vcol (View.ld (Val := Elt Ideal) (S := S1x4096x128) (e' := .bf16) X (Rect.unit ![0, 256, 0] ![1, 256, 128] j1))⟩,
      ⟨Rect.unit ![0, 0] ![128, 256] i0, vcol (View.ld (Val := Elt Ideal) (S := S1x4096x128) (e' := .bf16) X (Rect.unit ![0, 0, 0] ![1, 256, 128] j0))⟩]
    ⟨ones_of X io, vcol_of X 3840 (by decide) i15 j15, vcol_of X 3584 (by decide) i14 j14, vcol_of X 3328 (by decide) i13 j13, vcol_of X 3072 (by decide) i12 j12, vcol_of X 2816 (by decide) i11 j11, vcol_of X 2560 (by decide) i10 j10, vcol_of X 2304 (by decide) i9 j9, vcol_of X 2048 (by decide) i8 j8, vcol_of X 1792 (by decide) i7 j7, vcol_of X 1536 (by decide) i6 j6, vcol_of X 1280 (by decide) i5 j5, vcol_of X 1024 (by decide) i4 j4, vcol_of X 768 (by decide) i3 j3, vcol_of X 512 (by decide) i2 j2, vcol_of X 256 (by decide) i1 j1, vcol_of X 0 (by decide) i0 j0, trivial⟩ _ ?_).trans ?_
  · by_cases hn : 128 ≤ n.val
    · refine ⟨_, List.mem_cons_self, mem2 _ _ _ _ (by assumption) _ ?_ ?_⟩
      · show 128 ≤ 0 + 1 * n.val ∧ 0 + 1 * n.val < 128 + 16; omega
      · show 0 ≤ k0 + 1 * k.val ∧ k0 + 1 * k.val < 0 + 4096; omega
    · have hk : (k0 + 1 * k.val) / 256 < 16 := by omega
      obtain ⟨m, hm⟩ : ∃ m, (k0 + 1 * k.val) / 256 = m := ⟨_, rfl⟩
      have hm' : m < 16 := by omega
      interval_cases m
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem2 _ _ _ _ (by assumption) _ ?_ ?_⟩
        · show 0 ≤ 0 + 1 * n.val ∧ 0 + 1 * n.val < 0 + 128; omega
        · show 0 ≤ k0 + 1 * k.val ∧ k0 + 1 * k.val < 0 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem2 _ _ _ _ (by assumption) _ ?_ ?_⟩
        · show 0 ≤ 0 + 1 * n.val ∧ 0 + 1 * n.val < 0 + 128; omega
        · show 256 ≤ k0 + 1 * k.val ∧ k0 + 1 * k.val < 256 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem2 _ _ _ _ (by assumption) _ ?_ ?_⟩
        · show 0 ≤ 0 + 1 * n.val ∧ 0 + 1 * n.val < 0 + 128; omega
        · show 512 ≤ k0 + 1 * k.val ∧ k0 + 1 * k.val < 512 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem2 _ _ _ _ (by assumption) _ ?_ ?_⟩
        · show 0 ≤ 0 + 1 * n.val ∧ 0 + 1 * n.val < 0 + 128; omega
        · show 768 ≤ k0 + 1 * k.val ∧ k0 + 1 * k.val < 768 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem2 _ _ _ _ (by assumption) _ ?_ ?_⟩
        · show 0 ≤ 0 + 1 * n.val ∧ 0 + 1 * n.val < 0 + 128; omega
        · show 1024 ≤ k0 + 1 * k.val ∧ k0 + 1 * k.val < 1024 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem2 _ _ _ _ (by assumption) _ ?_ ?_⟩
        · show 0 ≤ 0 + 1 * n.val ∧ 0 + 1 * n.val < 0 + 128; omega
        · show 1280 ≤ k0 + 1 * k.val ∧ k0 + 1 * k.val < 1280 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem2 _ _ _ _ (by assumption) _ ?_ ?_⟩
        · show 0 ≤ 0 + 1 * n.val ∧ 0 + 1 * n.val < 0 + 128; omega
        · show 1536 ≤ k0 + 1 * k.val ∧ k0 + 1 * k.val < 1536 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem2 _ _ _ _ (by assumption) _ ?_ ?_⟩
        · show 0 ≤ 0 + 1 * n.val ∧ 0 + 1 * n.val < 0 + 128; omega
        · show 1792 ≤ k0 + 1 * k.val ∧ k0 + 1 * k.val < 1792 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem2 _ _ _ _ (by assumption) _ ?_ ?_⟩
        · show 0 ≤ 0 + 1 * n.val ∧ 0 + 1 * n.val < 0 + 128; omega
        · show 2048 ≤ k0 + 1 * k.val ∧ k0 + 1 * k.val < 2048 + 256; omega
      · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem2 _ _ _ _ (by assumption) _ ?_ ?_⟩
        · show 0 ≤ 0 + 1 * n.val ∧ 0 + 1 * n.val < 0 + 128; omega
        · show 2304 ≤ k0 + 1 * k.val ∧ k0 + 1 * k.val < 2304 + 256; omega
      · refine ⟨_, List.mem_cons_of_mem _ (List.mem_cons_of_mem _ (List.mem_cons_of_mem _ (List.mem_cons_of_mem _ (List.mem_cons_of_mem _ (List.mem_cons_of_mem _ List.mem_cons_self))))), mem2 _ _ _ _ (by assumption) _ ?_ ?_⟩
        · show 0 ≤ 0 + 1 * n.val ∧ 0 + 1 * n.val < 0 + 128; omega
        · show 2560 ≤ k0 + 1 * k.val ∧ k0 + 1 * k.val < 2560 + 256; omega
      · refine ⟨_, List.mem_cons_of_mem _ (List.mem_cons_of_mem _ (List.mem_cons_of_mem _ (List.mem_cons_of_mem _ (List.mem_cons_of_mem _ List.mem_cons_self)))), mem2 _ _ _ _ (by assumption) _ ?_ ?_⟩
        · show 0 ≤ 0 + 1 * n.val ∧ 0 + 1 * n.val < 0 + 128; omega
        · show 2816 ≤ k0 + 1 * k.val ∧ k0 + 1 * k.val < 2816 + 256; omega
      · refine ⟨_, List.mem_cons_of_mem _ (List.mem_cons_of_mem _ (List.mem_cons_of_mem _ (List.mem_cons_of_mem _ List.mem_cons_self))), mem2 _ _ _ _ (by assumption) _ ?_ ?_⟩
        · show 0 ≤ 0 + 1 * n.val ∧ 0 + 1 * n.val < 0 + 128; omega
        · show 3072 ≤ k0 + 1 * k.val ∧ k0 + 1 * k.val < 3072 + 256; omega
      · refine ⟨_, List.mem_cons_of_mem _ (List.mem_cons_of_mem _ (List.mem_cons_of_mem _ List.mem_cons_self)), mem2 _ _ _ _ (by assumption) _ ?_ ?_⟩
        · show 0 ≤ 0 + 1 * n.val ∧ 0 + 1 * n.val < 0 + 128; omega
        · show 3328 ≤ k0 + 1 * k.val ∧ k0 + 1 * k.val < 3328 + 256; omega
      · refine ⟨_, List.mem_cons_of_mem _ (List.mem_cons_of_mem _ List.mem_cons_self), mem2 _ _ _ _ (by assumption) _ ?_ ?_⟩
        · show 0 ≤ 0 + 1 * n.val ∧ 0 + 1 * n.val < 0 + 128; omega
        · show 3584 ≤ k0 + 1 * k.val ∧ k0 + 1 * k.val < 3584 + 256; omega
      · refine ⟨_, List.mem_cons_of_mem _ List.mem_cons_self, mem2 _ _ _ _ (by assumption) _ ?_ ?_⟩
        · show 0 ≤ 0 + 1 * n.val ∧ 0 + 1 * n.val < 0 + 128; omega
        · show 3840 ≤ k0 + 1 * k.val ∧ k0 + 1 * k.val < 3840 + 256; omega
  · refine congrArg₂ (vt X) (Fin.ext ?_) (Fin.ext ?_)
    · show 0 + 1 * n.val = n.val; omega
    · show k0 + 1 * k.val = k0 + k.val; omega

end

/-! ## The closed form of the banded attention -/

section
variable (Q K : FVec Ideal S1x4096x128 .bf16) (B : FVec Ideal S1x768x256 .f32) (X : FVec Ideal S1x4096x128 .bf16)

/-- The score of query `r` against key `k`: inside the window of the query's group the product of the two rows and the bias, elsewhere `-inf`. -/
def bandLogit (r k : Fin 4096) : EReal :=
  if h : (r.val / 256 - 2) * 256 ≤ k.val ∧ k.val < (r.val / 256 + 1) * 256 then
    (∑ d : Fin 128, (K (ix3 0 k d) : EReal) * Q (ix3 0 r d)) + B (ix3 0 ⟨k.val + 512 - r.val / 256 * 256, by omega⟩ ⟨r.val % 256, Nat.mod_lt _ (by decide)⟩)
  else ⊥

/-- The weight of key `k` for query `r`, over the greatest score. -/
def bandWeight (r k : Fin 4096) : EReal := Ideal.exp2 (bandLogit Q K B r k - Finset.univ.sup (bandLogit Q K B r))

/-- The attention of query `r` at column `n`. -/
def bandOut (r : Fin 4096) (n : Fin 128) : EReal :=
  Ideal.div (∑ k : Fin 4096, (X (ix3 0 k n) : EReal) * bandWeight Q K B r k) (∑ k : Fin 4096, bandWeight Q K B r k)

theorem exp2_bot_sub (m : EReal) : Ideal.exp2 ((⊥ : EReal) - m) = 0 := by
  have : (⊥ : EReal) - m = ⊥ := by rw [sub_eq_add_neg, EReal.bot_add]
  rw [this]; rfl

theorem bandWeight_off (r k : Fin 4096) (h : ¬ ((r.val / 256 - 2) * 256 ≤ k.val ∧ k.val < (r.val / 256 + 1) * 256)) : bandWeight Q K B r k = 0 := by
  unfold bandWeight
  rw [show bandLogit Q K B r k = ⊥ from dif_neg h, exp2_bot_sub]

theorem sum_window (lo w : ℕ) (hw : lo + w ≤ 4096) (f : Fin 4096 → EReal) (hf : ∀ k : Fin 4096, ¬ (lo ≤ k.val ∧ k.val < lo + w) → f k = 0) :
    ∑ x : Fin w, f ⟨lo + x.val, by omega⟩ = ∑ k, f k := by
  refine Fintype.sum_of_injective (fun x : Fin w => (⟨lo + x.val, by omega⟩ : Fin 4096)) (fun a b h => Fin.ext ?_) _ _ (fun k hk => hf k fun h => hk ?_) (fun _ => rfl)
  · have := congrArg Fin.val h
    simp only at this; omega
  · exact ⟨⟨k.val - lo, by omega⟩, Fin.ext (by show lo + (k.val - lo) = k.val; omega)⟩

theorem row_lt (g : ℕ) (i : Fin 256) (hg : g < 16) : g * 256 + i.val < 4096 := by omega

/-- A group's quotient of sums over its window is the closed form. -/
theorem band_div (g lo w : ℕ) (hg : g < 16) (hlo : lo = (g - 2) * 256) (hw : lo + w = (g + 1) * 256)
    (A : FVec Ideal ⟨2, ![144, w]⟩ .bf16) (P : FVec Ideal ⟨2, ![w, 256]⟩ .bf16)
    (hA : ∀ (n : Fin 144) (k : Fin w), A (ix2 n k) = vt X n ⟨lo + k.val, by omega⟩)
    (hP : ∀ (k : Fin w) (i : Fin 256), P (ix2 k i) = bandWeight Q K B ⟨g * 256 + i.val, by omega⟩ ⟨lo + k.val, by omega⟩)
    (n : Fin 128) (i : Fin 256) (r : Fin 4096) (hr : r.val = g * 256 + i.val) :
    Ideal.div (∑ x : Fin w, (A (ix2 ⟨n.val, by omega⟩ x) : EReal) * P (ix2 x i)) (∑ x : Fin w, (A (ix2 ⟨128, by omega⟩ x) : EReal) * P (ix2 x i)) = bandOut Q K B X r n := by
  obtain rfl : r = ⟨g * 256 + i.val, row_lt g i hg⟩ := Fin.ext hr
  have hd : (g * 256 + i.val) / 256 = g := by omega
  have off : ∀ k : Fin 4096, ¬ (lo ≤ k.val ∧ k.val < lo + w) → bandWeight Q K B ⟨g * 256 + i.val, by omega⟩ k = 0 := fun k hk =>
    bandWeight_off Q K B _ _ (by show ¬ ((((g * 256 + i.val) / 256 - 2) * 256) ≤ k.val ∧ k.val < ((g * 256 + i.val) / 256 + 1) * 256); rw [hd, ← hlo, ← hw]; exact hk)
  unfold bandOut
  refine congrArg₂ Ideal.div ?_ ?_
  · rw [← sum_window lo w (by omega) _ (fun k hk => by rw [off k hk, mul_zero])]
    refine Finset.sum_congr rfl fun x _ => ?_
    rw [hA, hP]
    exact congrArg (· * _) (dif_pos n.isLt)
  · rw [← sum_window lo w (by omega) _ off]
    refine Finset.sum_congr rfl fun x _ => ?_
    rw [hA, hP, show vt X ⟨128, by omega⟩ ⟨lo + x.val, by omega⟩ = 1 from (dif_neg (by show ¬ (128 < 128); omega)).trans (if_pos rfl), one_mul]

/-- The block of 256 rows at `o`, as the kernel loads it. -/
abbrev ldr (Y : FVec Ideal S1x4096x128 .bf16) (o : ℕ)
    (i : ∀ a, (![0, o, 0] : Fin 3 → ℕ) a + (![1, 256, 128] : Fin 3 → ℕ) a ≤ S1x4096x128.size a) : Vec Ideal S1x256x128 .bf16 :=
  View.ld (Val := Elt Ideal) (S := S1x4096x128) (e' := .bf16) Y (Rect.unit ![0, o, 0] ![1, 256, 128] i)

/-- The block of 256 rows of the bias at `o`, as the kernel loads it. -/
abbrev ldb (Y : FVec Ideal S1x768x256 .f32) (o : ℕ)
    (i : ∀ a, (![0, o, 0] : Fin 3 → ℕ) a + (![1, 256, 256] : Fin 3 → ℕ) a ≤ S1x768x256.size a) : Vec Ideal S1x256x256 .f32 :=
  View.ld (Val := Elt Ideal) (S := S1x768x256) (e' := .f32) Y (Rect.unit ![0, o, 0] ![1, 256, 256] i)

theorem score_of (g ko bo qo : ℕ) (hg : g < 16) (hqo : qo = g * 256) (hko : ko + 512 = g * 256 + bo) (hb : bo ≤ 512) (ik iq ib) (j i : Fin 256) :
    score (ldr K ko ik) (ldr Q qo iq) (ldb B bo ib) (ix2 j i) = bandLogit Q K B ⟨g * 256 + i.val, by omega⟩ ⟨ko + j.val, by omega⟩ := by
  subst hqo
  rw [score_apply]
  have hd : (g * 256 + i.val) / 256 = g := by omega
  unfold bandLogit
  rw [dif_pos (by show (((g * 256 + i.val) / 256 - 2) * 256) ≤ ko + j.val ∧ ko + j.val < ((g * 256 + i.val) / 256 + 1) * 256; rw [hd]; omega)]
  refine Ideal.add_congr (Finset.sum_congr rfl fun d _ => Ideal.mul_congr (congrArg K ?_) (congrArg Q ?_)) (congrArg B ?_)
  · refine funext (Fin.forall_fin_succ.mpr ⟨rfl, Fin.forall_fin_two.mpr ⟨Fin.ext ?_, Fin.ext ?_⟩⟩)
    · show ko + 1 * j.val = ko + j.val; omega
    · show 0 + 1 * d.val = d.val; omega
  · refine funext (Fin.forall_fin_succ.mpr ⟨rfl, Fin.forall_fin_two.mpr ⟨Fin.ext ?_, Fin.ext ?_⟩⟩)
    · show g * 256 + 1 * i.val = g * 256 + i.val; omega
    · show 0 + 1 * d.val = d.val; omega
  · refine funext (Fin.forall_fin_succ.mpr ⟨rfl, Fin.forall_fin_two.mpr ⟨Fin.ext ?_, Fin.ext ?_⟩⟩)
    · show bo + 1 * j.val = ko + j.val + 512 - (g * 256 + i.val) / 256 * 256; rw [hd]; omega
    · show 0 + 1 * i.val = (g * 256 + i.val) % 256; omega

/-- The greatest of a query's scores, from bounds on them: `m` lies under `u` exactly when the scores of the window do. -/
theorem top_of (g lo : ℕ) (hg : g < 16) (hlo : lo = (g - 2) * 256) (i : Fin 256) (m : EReal)
    (h : ∀ u, m ≤ u ↔ ∀ k : Fin 4096, lo ≤ k.val ∧ k.val < (g + 1) * 256 → bandLogit Q K B ⟨g * 256 + i.val, row_lt g i hg⟩ k ≤ u) :
    m = Finset.univ.sup (bandLogit Q K B ⟨g * 256 + i.val, row_lt g i hg⟩) := by
  refine eq_of_forall_ge_iff fun u => (h u).trans ?_
  rw [Finset.sup_le_iff]
  have hd : (g * 256 + i.val) / 256 = g := by omega
  refine ⟨fun hk k _ => ?_, fun hk k _ => hk k (Finset.mem_univ _)⟩
  by_cases c : lo ≤ k.val ∧ k.val < (g + 1) * 256
  · exact hk k c
  · refine le_of_eq_of_le (dif_neg ?_) bot_le
    show ¬ ((((g * 256 + i.val) / 256 - 2) * 256) ≤ k.val ∧ k.val < ((g * 256 + i.val) / 256 + 1) * 256)
    rw [hd, ← hlo]; exact c

theorem peak_le (x : FVec Ideal S8x256 .f32) (i : Fin 256) (u : EReal) : peak x (ix2 0 i) ≤ u ↔ ∀ a : Fin 8, x (ix2 a i) ≤ u := by
  rw [peak_apply, Finset.sup_le_iff]
  exact ⟨fun h a => h a (Finset.mem_univ _), fun h a _ => h a⟩

theorem max_le2 (x y : FVec Ideal S8x256 .f32) (i : Fin 256) (u : EReal) :
    (∀ a : Fin 8, maximumf x y (ix2 a i) ≤ u) ↔ (∀ a : Fin 8, x (ix2 a i) ≤ u) ∧ ∀ a : Fin 8, y (ix2 a i) ≤ u := by
  have e : ∀ a : Fin 8, maximumf x y (ix2 a i) = max (x (ix2 a i) : EReal) (y (ix2 a i)) := fun a => by pointwise
  simp only [e, max_le_iff]
  exact forall_and

theorem peak1 (g lo : ℕ) (hg : g < 16) (hlo : lo = (g - 2) * 256) (hw : lo + 256 = (g + 1) * 256) (s2 : FVec Ideal S256x256 .f32)
    (h2 : ∀ j i : Fin 256, s2 (ix2 j i) = bandLogit Q K B ⟨g * 256 + i.val, row_lt g i hg⟩ ⟨lo + j.val, by omega⟩) (i : Fin 256) :
    peak (fold8 s2) (ix2 0 i) = Finset.univ.sup (bandLogit Q K B ⟨g * 256 + i.val, row_lt g i hg⟩) := by
  refine top_of Q K B g lo hg hlo i _ fun u => ?_
  rw [peak_le, fold8_le]
  constructor
  · intro h k hk
    have := h ⟨k.val - lo, by omega⟩
    rw [h2] at this
    exact le_of_eq_of_le (congrArg _ (Fin.ext (by show k.val = lo + (k.val - lo); omega))) this
  · intro h j
    rw [h2]
    exact h _ (by show lo ≤ lo + j.val ∧ lo + j.val < _; omega)

theorem peak2 (g lo : ℕ) (hg : g < 16) (hlo : lo = (g - 2) * 256) (hw : lo + 512 = (g + 1) * 256) (s1 s2 : FVec Ideal S256x256 .f32)
    (h1 : ∀ j i : Fin 256, s1 (ix2 j i) = bandLogit Q K B ⟨g * 256 + i.val, row_lt g i hg⟩ ⟨lo + j.val, by omega⟩)
    (h2 : ∀ j i : Fin 256, s2 (ix2 j i) = bandLogit Q K B ⟨g * 256 + i.val, row_lt g i hg⟩ ⟨lo + 256 + j.val, by omega⟩) (i : Fin 256) :
    peak (maximumf (fold8 s1) (fold8 s2)) (ix2 0 i) = Finset.univ.sup (bandLogit Q K B ⟨g * 256 + i.val, row_lt g i hg⟩) := by
  refine top_of Q K B g lo hg hlo i _ fun u => ?_
  rw [peak_le, max_le2, fold8_le, fold8_le]
  constructor
  · rintro ⟨k1, k2⟩ k hk
    by_cases c : k.val < lo + 256
    · have := k1 ⟨k.val - lo, by omega⟩
      rw [h1] at this
      exact le_of_eq_of_le (congrArg _ (Fin.ext (by show k.val = lo + (k.val - lo); omega))) this
    · have := k2 ⟨k.val - (lo + 256), by omega⟩
      rw [h2] at this
      exact le_of_eq_of_le (congrArg _ (Fin.ext (by show k.val = lo + 256 + (k.val - (lo + 256)); omega))) this
  · intro h
    refine ⟨fun j => ?_, fun j => ?_⟩
    · rw [h1]; exact h _ (by show lo ≤ lo + j.val ∧ lo + j.val < _; omega)
    · rw [h2]; exact h _ (by show lo ≤ lo + 256 + j.val ∧ lo + 256 + j.val < _; omega)

theorem peak3 (g lo : ℕ) (hg : g < 16) (hlo : lo = (g - 2) * 256) (hw : lo + 768 = (g + 1) * 256) (s0 s1 s2 : FVec Ideal S256x256 .f32)
    (h0 : ∀ j i : Fin 256, s0 (ix2 j i) = bandLogit Q K B ⟨g * 256 + i.val, row_lt g i hg⟩ ⟨lo + j.val, by omega⟩)
    (h1 : ∀ j i : Fin 256, s1 (ix2 j i) = bandLogit Q K B ⟨g * 256 + i.val, row_lt g i hg⟩ ⟨lo + 256 + j.val, by omega⟩)
    (h2 : ∀ j i : Fin 256, s2 (ix2 j i) = bandLogit Q K B ⟨g * 256 + i.val, row_lt g i hg⟩ ⟨lo + 512 + j.val, by omega⟩) (i : Fin 256) :
    peak (maximumf (maximumf (fold8 s0) (fold8 s1)) (fold8 s2)) (ix2 0 i) = Finset.univ.sup (bandLogit Q K B ⟨g * 256 + i.val, row_lt g i hg⟩) := by
  refine top_of Q K B g lo hg hlo i _ fun u => ?_
  rw [peak_le, max_le2, max_le2, fold8_le, fold8_le, fold8_le]
  constructor
  · rintro ⟨⟨k0, k1⟩, k2⟩ k hk
    by_cases c : k.val < lo + 256
    · have := k0 ⟨k.val - lo, by omega⟩
      rw [h0] at this
      exact le_of_eq_of_le (congrArg _ (Fin.ext (by show k.val = lo + (k.val - lo); omega))) this
    · by_cases c' : k.val < lo + 512
      · have := k1 ⟨k.val - (lo + 256), by omega⟩
        rw [h1] at this
        exact le_of_eq_of_le (congrArg _ (Fin.ext (by show k.val = lo + 256 + (k.val - (lo + 256)); omega))) this
      · have := k2 ⟨k.val - (lo + 512), by omega⟩
        rw [h2] at this
        exact le_of_eq_of_le (congrArg _ (Fin.ext (by show k.val = lo + 512 + (k.val - (lo + 512)); omega))) this
  · intro h
    refine ⟨⟨fun j => ?_, fun j => ?_⟩, fun j => ?_⟩
    · rw [h0]; exact h _ (by show lo ≤ lo + j.val ∧ lo + j.val < _; omega)
    · rw [h1]; exact h _ (by show lo ≤ lo + 256 + j.val ∧ lo + 256 + j.val < _; omega)
    · rw [h2]; exact h _ (by show lo ≤ lo + 512 + j.val ∧ lo + 512 + j.val < _; omega)

theorem weight_of (g : ℕ) (hg : g < 16) (s : FVec Ideal S256x256 .f32) (m : FVec Ideal S1x256 .f32) (i : Fin 256) (j : Fin 256) (k : Fin 4096)
    (hs : s (ix2 j i) = bandLogit Q K B ⟨g * 256 + i.val, row_lt g i hg⟩ k)
    (hm : m (ix2 0 i) = Finset.univ.sup (bandLogit Q K B ⟨g * 256 + i.val, row_lt g i hg⟩)) :
    weight s m (ix2 j i) = bandWeight Q K B ⟨g * 256 + i.val, row_lt g i hg⟩ k := by
  rw [weight_apply, hs, hm]; rfl

/-- The weights of a group with a whole window, read back. -/
theorem group3 {sp : Space} (v : View sig .tc sp S768x256 .bf16) (g k0 k1 k2 : ℕ) (hg : g < 16) (e0 : k0 + 512 = g * 256) (e1 : k1 = k0 + 256) (e2 : k2 = k0 + 512)
    (i2 i1 i0 ib) (L) (q a0 a1 a2 b0 b1 b2) (j : Fin 768) (i : Fin 256) :
    View.readCov (Val := Elt Ideal) v
      (⟨Rect.unit ![512, 0] ![256, 256] i2, weight (score (ldr K k2 a2) (ldr Q k2 q) (ldb B 512 b2))
          (peak (maximumf (maximumf (fold8 (score (ldr K k0 a0) (ldr Q k2 q) (ldb B 0 b0))) (fold8 (score (ldr K k1 a1) (ldr Q k2 q) (ldb B 256 b1)))) (fold8 (score (ldr K k2 a2) (ldr Q k2 q) (ldb B 512 b2)))))⟩ ::
       ⟨Rect.unit ![256, 0] ![256, 256] i1, weight (score (ldr K k1 a1) (ldr Q k2 q) (ldb B 256 b1))
          (peak (maximumf (maximumf (fold8 (score (ldr K k0 a0) (ldr Q k2 q) (ldb B 0 b0))) (fold8 (score (ldr K k1 a1) (ldr Q k2 q) (ldb B 256 b1)))) (fold8 (score (ldr K k2 a2) (ldr Q k2 q) (ldb B 512 b2)))))⟩ ::
       ⟨Rect.unit ![0, 0] ![256, 256] i0, weight (score (ldr K k0 a0) (ldr Q k2 q) (ldb B 0 b0))
          (peak (maximumf (maximumf (fold8 (score (ldr K k0 a0) (ldr Q k2 q) (ldb B 0 b0))) (fold8 (score (ldr K k1 a1) (ldr Q k2 q) (ldb B 256 b1)))) (fold8 (score (ldr K k2 a2) (ldr Q k2 q) (ldb B 512 b2)))))⟩ :: L)
      (Rect.unit (s := S768x256) ![0, 0] ![768, 256] ib).toLoadRect (ix2 j i)
    = bandWeight Q K B ⟨g * 256 + i.val, row_lt g i hg⟩ ⟨k0 + j.val, by omega⟩ := by
  have h0 := score_of Q K B g k0 0 k2 hg (by omega) (by omega) (by decide) a0 q b0
  have h1 := score_of Q K B g k1 256 k2 hg (by omega) (by omega) (by decide) a1 q b1
  have h2 := score_of Q K B g k2 512 k2 hg (by omega) (by omega) (by decide) a2 q b2
  subst e1 e2
  have hm := peak3 Q K B g k0 hg (by omega) (by omega) _ _ _ h0 h1 h2
  exact read3 v _ _ _ (fun (j : Fin 768) (i : Fin 256) => bandWeight Q K B ⟨g * 256 + i.val, row_lt g i hg⟩ ⟨k0 + j.val, by omega⟩) i2 i1 i0 ib L
    (fun a b => weight_of Q K B g hg _ _ b a _ ((h0 a b).trans (congrArg _ (Fin.ext (by show k0 + a.val = k0 + (0 + a.val); omega)))) (hm b))
    (fun a b => weight_of Q K B g hg _ _ b a _ ((h1 a b).trans (congrArg _ (Fin.ext (by show k0 + 256 + a.val = k0 + (256 + a.val); omega)))) (hm b))
    (fun a b => weight_of Q K B g hg _ _ b a _ ((h2 a b).trans (congrArg _ (Fin.ext (by show k0 + 512 + a.val = k0 + (512 + a.val); omega)))) (hm b)) j i

/-- The weights of the second group, whose window is two blocks. -/
theorem group2 {sp : Space} (v : View sig .tc sp S768x256 .bf16) (i2 i1 ib) (L) (q a1 a2 b1 b2) (j : Fin 512) (i : Fin 256) :
    View.readCov (Val := Elt Ideal) v
      (⟨Rect.unit ![512, 0] ![256, 256] i2, weight (score (ldr K 256 a2) (ldr Q 256 q) (ldb B 512 b2))
          (peak (maximumf (fold8 (score (ldr K 0 a1) (ldr Q 256 q) (ldb B 256 b1))) (fold8 (score (ldr K 256 a2) (ldr Q 256 q) (ldb B 512 b2)))))⟩ ::
       ⟨Rect.unit ![256, 0] ![256, 256] i1, weight (score (ldr K 0 a1) (ldr Q 256 q) (ldb B 256 b1))
          (peak (maximumf (fold8 (score (ldr K 0 a1) (ldr Q 256 q) (ldb B 256 b1))) (fold8 (score (ldr K 256 a2) (ldr Q 256 q) (ldb B 512 b2)))))⟩ :: L)
      (Rect.unit (s := S768x256) ![256, 0] ![512, 256] ib).toLoadRect (ix2 j i)
    = bandWeight Q K B ⟨1 * 256 + i.val, row_lt 1 i (by decide)⟩ ⟨0 + j.val, by omega⟩ := by
  have h1 := score_of Q K B 1 0 256 256 (by decide) (by omega) (by omega) (by decide) a1 q b1
  have h2 := score_of Q K B 1 256 512 256 (by decide) (by omega) (by omega) (by decide) a2 q b2
  have hm := peak2 Q K B 1 0 (by decide) (by omega) (by omega) _ _ h1 (fun j i => (h2 j i).trans (congrArg _ (Fin.ext (by show 256 + j.val = 0 + 256 + j.val; omega))))
  refine (read2 v _ _ (fun (j : Fin 768) (i : Fin 256) => bandWeight Q K B ⟨1 * 256 + i.val, row_lt 1 i (by decide)⟩ ⟨j.val - 256, by omega⟩) i2 i1 ib L
    (fun a b => weight_of Q K B 1 (by decide) _ _ b a _ ((h1 a b).trans (congrArg _ (Fin.ext (by show 0 + a.val = 256 + a.val - 256; omega)))) (hm b))
    (fun a b => weight_of Q K B 1 (by decide) _ _ b a _ ((h2 a b).trans (congrArg _ (Fin.ext (by show 256 + a.val = 512 + a.val - 256; omega)))) (hm b)) j i).trans ?_
  exact congrArg (bandWeight Q K B _) (Fin.ext (by show 256 + j.val - 256 = 0 + j.val; omega))

/-- The weights of the first group, whose window is its own block. -/
theorem group1 (q a2 b2) (j i : Fin 256) :
    weight (score (ldr K 0 a2) (ldr Q 0 q) (ldb B 512 b2)) (peak (fold8 (score (ldr K 0 a2) (ldr Q 0 q) (ldb B 512 b2)))) (ix2 j i)
    = bandWeight Q K B ⟨0 * 256 + i.val, row_lt 0 i (by decide)⟩ ⟨0 + j.val, by omega⟩ := by
  have h2 := score_of Q K B 0 0 512 0 (by decide) (by omega) (by omega) (by decide) a2 q b2
  exact weight_of Q K B 0 (by decide) _ _ i j _ (h2 j i) (peak1 Q K B 0 0 (by decide) (by omega) (by omega) _ h2 i)

end

/-! ## What a group's body divides, over its two loads -/

section
variable (Q K : FVec Ideal S1x4096x128 .bf16) (B : FVec Ideal S1x768x256 .f32) (X : FVec Ideal S1x4096x128 .bf16)

/-- The last step of a group with a whole window. -/
def quot3 (A : Vec Ideal S144x768 .bf16) (P : Vec Ideal S768x256 .bf16) : FVec Ideal S1x256x128 .bf16 := k2_pay1 (k2_pay237 A P)

theorem final3 (g lo : ℕ) (hg : g < 16) (hlo : lo = (g - 2) * 256) (hw : lo + 768 = (g + 1) * 256)
    (A : Vec Ideal S144x768 .bf16) (P : Vec Ideal S768x256 .bf16)
    (hA : ∀ (n : Fin 144) (k : Fin 768), A (ix2 n k) = vt X n ⟨lo + k.val, by omega⟩)
    (hP : ∀ (k : Fin 768) (i : Fin 256), P (ix2 k i) = bandWeight Q K B ⟨g * 256 + i.val, row_lt g i hg⟩ ⟨lo + k.val, by omega⟩)
    (r : Fin 4096) (n : Fin 128) (o : Fin 1) (a : Fin 256) (b : Fin 128) (hr : r.val = g * 256 + a.val) (hn : n.val = b.val) :
    quot3 A P (ix3 o a b) = bandOut Q K B X r n := by
  obtain rfl : n = b := Fin.ext hn
  refine Eq.trans ?_ (band_div Q K B X g lo 768 hg hlo hw A P hA hP n a r hr)
  unfold quot3
  pointwise [k2_pay1, k2_pay237]

/-- The last step of the group with two blocks of keys. -/
def quot2 (A : Vec Ideal S144x512 .bf16) (P : Vec Ideal S512x256 .bf16) : FVec Ideal S1x256x128 .bf16 := k2_pay58 A P

theorem final2 (g lo : ℕ) (hg : g < 16) (hlo : lo = (g - 2) * 256) (hw : lo + 512 = (g + 1) * 256)
    (A : Vec Ideal S144x512 .bf16) (P : Vec Ideal S512x256 .bf16)
    (hA : ∀ (n : Fin 144) (k : Fin 512), A (ix2 n k) = vt X n ⟨lo + k.val, by omega⟩)
    (hP : ∀ (k : Fin 512) (i : Fin 256), P (ix2 k i) = bandWeight Q K B ⟨g * 256 + i.val, row_lt g i hg⟩ ⟨lo + k.val, by omega⟩)
    (r : Fin 4096) (n : Fin 128) (o : Fin 1) (a : Fin 256) (b : Fin 128) (hr : r.val = g * 256 + a.val) (hn : n.val = b.val) :
    quot2 A P (ix3 o a b) = bandOut Q K B X r n := by
  obtain rfl : n = b := Fin.ext hn
  refine Eq.trans ?_ (band_div Q K B X g lo 512 hg hlo hw A P hA hP n a r hr)
  unfold quot2
  pointwise [k2_pay58]

/-- The last step of the group with one block of keys. -/
def quot1 (A : Vec Ideal S144x256 .bf16) (P : Vec Ideal S256x256 .bf16) : FVec Ideal S1x256x128 .bf16 := k2_pay43 A P

theorem final1 (g lo : ℕ) (hg : g < 16) (hlo : lo = (g - 2) * 256) (hw : lo + 256 = (g + 1) * 256)
    (A : Vec Ideal S144x256 .bf16) (P : Vec Ideal S256x256 .bf16)
    (hA : ∀ (n : Fin 144) (k : Fin 256), A (ix2 n k) = vt X n ⟨lo + k.val, by omega⟩)
    (hP : ∀ (k : Fin 256) (i : Fin 256), P (ix2 k i) = bandWeight Q K B ⟨g * 256 + i.val, row_lt g i hg⟩ ⟨lo + k.val, by omega⟩)
    (r : Fin 4096) (n : Fin 128) (o : Fin 1) (a : Fin 256) (b : Fin 128) (hr : r.val = g * 256 + a.val) (hn : n.val = b.val) :
    quot1 A P (ix3 o a b) = bandOut Q K B X r n := by
  obtain rfl : n = b := Fin.ext hn
  refine Eq.trans ?_ (band_div Q K B X g lo 256 hg hlo hw A P hA hP n a r hr)
  unfold quot1
  pointwise [k2_pay43]

end

section
variable (V : (c : Dev nD) → (b : Ref sig .tc) → Buf (Elt Ideal) ((c : Thread nD τ).loc b))

set_option maxHeartbeats 4000000 in
/-- What a point of the banded attention leaves: the closed form of its three blocks and the bias. -/
theorem band_out (c : Dev nD) (t : Fin cfg2.N) (r : Fin 4096) (n : Fin 128) :
    (outsAt2 V c t : FVec Ideal S1x4096x128 .bf16) (ix3 0 r n) = bandOut (iblk2 V c 0 t) (iblk2 V c 1 t) (iblk2 V c 3 t) (iblk2 V c 2 t) r n := by
  unfold Gen.outsAt2
  frame_out
  simp (decide := true) only [↓View.readCov_skip, View.readCov_cons_toLoadRect]
  canon_tiles x h
  case piece0 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 15 3328 (by decide) (by decide) (by decide) _ _
      (readv (View.whole cc2_scratch0) (iblk2 V c 2 t) 3328 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch4) 15 3328 3584 3840 (by decide) (by decide) (by decide) (by decide) _ _ _ _ _ _ _ _ _ _ _ _)
      r n o a b h1 h2
  case piece1 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 14 3072 (by decide) (by decide) (by decide) _ _
      (readv (View.whole cc2_scratch0) (iblk2 V c 2 t) 3072 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch3) 14 3072 3328 3584 (by decide) (by decide) (by decide) (by decide) _ _ _ _ _ _ _ _ _ _ _ _)
      r n o a b h1 h2
  case piece2 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 13 2816 (by decide) (by decide) (by decide) _ _
      (readv (View.whole cc2_scratch0) (iblk2 V c 2 t) 2816 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch4) 13 2816 3072 3328 (by decide) (by decide) (by decide) (by decide) _ _ _ _ _ _ _ _ _ _ _ _)
      r n o a b h1 h2
  case piece3 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 12 2560 (by decide) (by decide) (by decide) _ _
      (readv (View.whole cc2_scratch0) (iblk2 V c 2 t) 2560 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch3) 12 2560 2816 3072 (by decide) (by decide) (by decide) (by decide) _ _ _ _ _ _ _ _ _ _ _ _)
      r n o a b h1 h2
  case piece4 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 11 2304 (by decide) (by decide) (by decide) _ _
      (readv (View.whole cc2_scratch0) (iblk2 V c 2 t) 2304 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch4) 11 2304 2560 2816 (by decide) (by decide) (by decide) (by decide) _ _ _ _ _ _ _ _ _ _ _ _)
      r n o a b h1 h2
  case piece5 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 10 2048 (by decide) (by decide) (by decide) _ _
      (readv (View.whole cc2_scratch0) (iblk2 V c 2 t) 2048 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch3) 10 2048 2304 2560 (by decide) (by decide) (by decide) (by decide) _ _ _ _ _ _ _ _ _ _ _ _)
      r n o a b h1 h2
  case piece6 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 9 1792 (by decide) (by decide) (by decide) _ _
      (readv (View.whole cc2_scratch0) (iblk2 V c 2 t) 1792 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch4) 9 1792 2048 2304 (by decide) (by decide) (by decide) (by decide) _ _ _ _ _ _ _ _ _ _ _ _)
      r n o a b h1 h2
  case piece7 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 8 1536 (by decide) (by decide) (by decide) _ _
      (readv (View.whole cc2_scratch0) (iblk2 V c 2 t) 1536 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch3) 8 1536 1792 2048 (by decide) (by decide) (by decide) (by decide) _ _ _ _ _ _ _ _ _ _ _ _)
      r n o a b h1 h2
  case piece8 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 7 1280 (by decide) (by decide) (by decide) _ _
      (readv (View.whole cc2_scratch0) (iblk2 V c 2 t) 1280 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch4) 7 1280 1536 1792 (by decide) (by decide) (by decide) (by decide) _ _ _ _ _ _ _ _ _ _ _ _)
      r n o a b h1 h2
  case piece9 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 6 1024 (by decide) (by decide) (by decide) _ _
      (readv (View.whole cc2_scratch0) (iblk2 V c 2 t) 1024 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch3) 6 1024 1280 1536 (by decide) (by decide) (by decide) (by decide) _ _ _ _ _ _ _ _ _ _ _ _)
      r n o a b h1 h2
  case piece10 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 5 768 (by decide) (by decide) (by decide) _ _
      (readv (View.whole cc2_scratch0) (iblk2 V c 2 t) 768 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch4) 5 768 1024 1280 (by decide) (by decide) (by decide) (by decide) _ _ _ _ _ _ _ _ _ _ _ _)
      r n o a b h1 h2
  case piece11 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 4 512 (by decide) (by decide) (by decide) _ _
      (readv (View.whole cc2_scratch0) (iblk2 V c 2 t) 512 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch3) 4 512 768 1024 (by decide) (by decide) (by decide) (by decide) _ _ _ _ _ _ _ _ _ _ _ _)
      r n o a b h1 h2
  case piece12 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 3 256 (by decide) (by decide) (by decide) _ _
      (readv (View.whole cc2_scratch0) (iblk2 V c 2 t) 256 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch4) 3 256 512 768 (by decide) (by decide) (by decide) (by decide) _ _ _ _ _ _ _ _ _ _ _ _)
      r n o a b h1 h2
  case piece13 =>
    obtain ⟨o, a, b, rfl⟩ : ∃ (o : Fin 1) (a : Fin 256) (b : Fin 128), x = ix3 o a b := ⟨x 0, x 1, x 2, eq_ix3 x⟩
    exact final3 (iblk2 V c 0 t) (iblk2 V c 1 t) (iblk2 V c 3 t) (iblk2 V c 2 t) 2 0 (by decide) (by decide) (by decide) _ _
      (readv (View.whole cc2_scratch0) (iblk2 V c 2 t) 0 768 (by decide) _ _ _ _ _ _ _ _ _ _ _ _ _ _ _ _ _ _ _ _ _ _ _ _ _ _ _ _ _ _ _ _ _ _)
      (group3 (iblk2 V c 0 t) (iblk2 V c 1 t) (iblk2 V c 3 t) (View.whole cc2_scratch3) 2 0 256 512 (by decide) (by decide) (by decide) (by decide) _ _ _ _ _ _ _ _ _ _ _ _)
      r n o a b h1 h2
  case piece14 =>
    obtain ⟨o, a, b, rfl⟩ : ∃ (o : Fin 1) (a : Fin 256) (b : Fin 128), x = ix3 o a b := ⟨x 0, x 1, x 2, eq_ix3 x⟩
    exact final2 (iblk2 V c 0 t) (iblk2 V c 1 t) (iblk2 V c 3 t) (iblk2 V c 2 t) 1 0 (by decide) (by decide) (by decide) _ _
      (readv (View.whole cc2_scratch0) (iblk2 V c 2 t) 0 512 (by decide) _ _ _ _ _ _ _ _ _ _ _ _ _ _ _ _ _ _ _ _ _ _ _ _ _ _ _ _ _ _ _ _ _ _)
      (group2 (iblk2 V c 0 t) (iblk2 V c 1 t) (iblk2 V c 3 t) (View.whole cc2_scratch4) _ _ _ _ _ _ _ _ _)
      r n o a b h1 h2
  case piece15 =>
    obtain ⟨o, a, b, rfl⟩ : ∃ (o : Fin 1) (a : Fin 256) (b : Fin 128), x = ix3 o a b := ⟨x 0, x 1, x 2, eq_ix3 x⟩
    exact final1 (iblk2 V c 0 t) (iblk2 V c 1 t) (iblk2 V c 3 t) (iblk2 V c 2 t) 0 0 (by decide) (by decide) (by decide) _ _
      (readv (View.whole cc2_scratch0) (iblk2 V c 2 t) 0 256 (by decide) _ _ _ _ _ _ _ _ _ _ _ _ _ _ _ _ _ _ _ _ _ _ _ _ _ _ _ _ _ _ _ _ _ _)
      (group1 (iblk2 V c 0 t) (iblk2 V c 1 t) (iblk2 V c 3 t) _ _ _)
      r n o a b (by have e : r.val = a.val := h1; omega) h2
end

end Cert.KernelIdeal.Mixer
-- ==== Proof.BandArr.lean ====
/- The banded attention's array after its region. -/
module

public import proofs.«01_k».proof.Proof.Band

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen Cert.Forms

/-- The block of 128 columns `m` of sequence `b`. -/
def headBlk (A : FVec Ideal S8x4096x6144 .bf16) (b : Fin 8) (m : Fin 48) : FVec Ideal S1x4096x128 .bf16 :=
  fun y => A (ix3 b (y 1) ⟨m.val * 128 + (y 2).val, by have : (y 2).val < 128 := (y 2).isLt; omega⟩)

/-- The bias of one head. -/
def biasBlk (T : FVec Ideal S16x768x256 .f32) (h : Fin 16) : FVec Ideal S1x768x256 .f32 := fun y => T (ix3 h (y 1) (y 2))

/-- The attention of head `h` of sequence `b`. -/
def bandHead (A : FVec Ideal S8x4096x6144 .bf16) (T : FVec Ideal S16x768x256 .f32) (b : Fin 8) (h : Fin 16) : Fin 4096 → Fin 128 → EReal :=
  bandOut (headBlk A b ⟨32 + h.val, by omega⟩) (headBlk A b ⟨h.val, by omega⟩) (biasBlk T h) (headBlk A b ⟨16 + h.val, by omega⟩)

/-- The attention of all heads, side by side. -/
def bandArr (A : FVec Ideal S8x4096x6144 .bf16) (T : FVec Ideal S16x768x256 .f32) : FVec Ideal S8x4096x2048 .bf16 := fun i =>
  bandHead A T (i 0) ⟨(i 2).val / 128, by have : (i 2).val < 2048 := (i 2).isLt; omega⟩ (i 1) ⟨(i 2).val % 128, Nat.mod_lt _ (by decide)⟩

/-- The block indices of the attention's windows: sequence `t / 16`, head `t % 16`. -/
theorem idx2 : ∀ t : Fin cfg2.N, win2_0.index t = ![t.val / 16, 0, 32 + t.val % 16] ∧ win2_1.index t = ![t.val / 16, 0, t.val % 16]
    ∧ win2_2.index t = ![t.val / 16, 0, 16 + t.val % 16] ∧ win2_3.index t = ![t.val % 16, 0, 0] ∧ win2_4.index t = ![t.val / 16, 0, t.val % 16] :=
  (by decide +kernel : ∀ t : Fin grid2.N, _)

variable (V : (c : Dev nD) → (b : Ref sig .tc) → Buf (Elt Ideal) ((c : Thread nD τ).loc b))

/-- The attention's array after its region, from what its operands held before. -/
theorem band_final (c : Dev nD) : ((dat2 V c).arrAt 4 cfg2.N : FVec Ideal S8x4096x2048 .bf16)
    = bandArr (V c (Pipeline.arrRef spec2 0)) (V c (Pipeline.arrRef spec2 3)) := by
  refine (dat2 V c).arrAt_eq_of_covers 4 _ (by decide +kernel) fun t hf y => ?_
  blk_simp
  rw [after2_4]
  obtain ⟨o, r, n, rfl⟩ : ∃ (o : Fin 1) (r : Fin 4096) (n : Fin 128), y = ix3 o r n := ⟨y 0, y 1, y 2, eq_ix3 y⟩
  obtain rfl : o = 0 := Subsingleton.elim _ _
  have ht : t.val < 128 := lt_of_lt_of_eq t.isLt (show cfg2.N = 128 from N_2)
  have he : ((cfg2.win 4).blk t).view.emb (ix3 0 r n) = (ix3 (⟨t.val / 16, by omega⟩ : Fin 8) r (⟨t.val % 16 * 128 + n.val, by omega⟩ : Fin 2048) : S8x4096x2048.Idx) := by
    blk_ext [idx2 t]
  rw [he]
  refine (band_out V c t r n).trans ?_
  have eh : (⟨(t.val % 16 * 128 + n.val) / 128, by omega⟩ : Fin 16) = ⟨t.val % 16, by omega⟩ := Fin.ext (by show (t.val % 16 * 128 + n.val) / 128 = t.val % 16; omega)
  have en : (⟨(t.val % 16 * 128 + n.val) % 128, Nat.mod_lt _ (by decide)⟩ : Fin 128) = n := Fin.ext (by show (t.val % 16 * 128 + n.val) % 128 = n.val; omega)
  show _ = bandHead _ _ ⟨t.val / 16, _⟩ ⟨(t.val % 16 * 128 + n.val) / 128, _⟩ r ⟨(t.val % 16 * 128 + n.val) % 128, _⟩
  rw [eh, en]
  unfold bandHead
  have e0 : (iblk2 V c 0 t : FVec Ideal S1x4096x128 .bf16) = headBlk (V c (Pipeline.arrRef spec2 0)) ⟨t.val / 16, by omega⟩ ⟨32 + t.val % 16, by omega⟩ := by
    funext y
    obtain ⟨o, r, n, rfl⟩ : ∃ (o : Fin 1) (r : Fin 4096) (n : Fin 128), y = ix3 o r n := ⟨y 0, y 1, y 2, eq_ix3 y⟩
    unfold headBlk
    blk_point [iblk2, idx2 t]
  have e1 : (iblk2 V c 1 t : FVec Ideal S1x4096x128 .bf16) = headBlk (V c (Pipeline.arrRef spec2 0)) ⟨t.val / 16, by omega⟩ ⟨t.val % 16, by omega⟩ := by
    funext y
    obtain ⟨o, r, n, rfl⟩ : ∃ (o : Fin 1) (r : Fin 4096) (n : Fin 128), y = ix3 o r n := ⟨y 0, y 1, y 2, eq_ix3 y⟩
    unfold headBlk
    blk_point [iblk2, idx2 t]
  have e2 : (iblk2 V c 2 t : FVec Ideal S1x4096x128 .bf16) = headBlk (V c (Pipeline.arrRef spec2 0)) ⟨t.val / 16, by omega⟩ ⟨16 + t.val % 16, by omega⟩ := by
    funext y
    obtain ⟨o, r, n, rfl⟩ : ∃ (o : Fin 1) (r : Fin 4096) (n : Fin 128), y = ix3 o r n := ⟨y 0, y 1, y 2, eq_ix3 y⟩
    unfold headBlk
    blk_point [iblk2, idx2 t]
  have e3 : (iblk2 V c 3 t : FVec Ideal S1x768x256 .f32) = biasBlk (V c (Pipeline.arrRef spec2 3)) ⟨t.val % 16, by omega⟩ := by
    funext y
    obtain ⟨o, r, n, rfl⟩ : ∃ (o : Fin 1) (r : Fin 768) (n : Fin 256), y = ix3 o r n := ⟨y 0, y 1, y 2, eq_ix3 y⟩
    unfold biasBlk
    blk_point [iblk2, idx2 t]
  rw [e0, e1, e2, e3]

end Cert.KernelIdeal.Mixer
-- ==== Proof.Out.lean ====
/- The output projection's region: the residual plus the product of the attention's rows and the weights. -/
module

public import proofs.«01_k».proof.Proof.Gen.KernelIdeal.Frame
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen

/-- The residual plus the product. -/
def outArr (X : FVec Ideal S32768x2048 .f32) (O : FVec Ideal S32768x2048 .bf16) (W : FVec Ideal S2048x2048 .bf16) : FVec Ideal S32768x2048 .f32 :=
  fun i => X i + ∑ l : Fin 2048, O (ix2 (i 0) l) * W (ix2 l (i 1))

/-- The block indices of the output projection's windows. -/
theorem idx3 : ∀ t : Fin cfg3.N, win3_0.index t = ![t.val, 0] ∧ win3_1.index t = ![t.val, 0] ∧ win3_2.index t = ![0, 0]
    ∧ win3_3.index t = ![t.val, 0] :=
  (by decide +kernel : ∀ t : Fin grid3.N, _)

variable (V : (c : Dev nD) → (b : Ref sig .tc) → Buf (Elt Ideal) ((c : Thread nD τ).loc b))

/-- The output projection's array after its region, from what its operands held before. -/
theorem out_final (c : Dev nD) : ((dat3 V c).arrAt 3 cfg3.N : FVec Ideal S32768x2048 .f32)
    = outArr (V c (Pipeline.arrRef spec3 0)) (V c (Pipeline.arrRef spec3 1)) (V c (Pipeline.arrRef spec3 2)) := by
  refine (dat3 V c).arrAt_eq_of_covers 3 _ (by decide +kernel) fun t hf y => ?_
  blk_simp
  rw [after3_3]
  frame_out
  obtain ⟨r, n, rfl⟩ : ∃ (r : Fin 1024) (n : Fin 2048), y = ix2 r n := ⟨y 0, y 1, eq_ix2 y⟩
  have ht : t.val < 32 := lt_of_lt_of_eq t.isLt (show cfg3.N = 32 from N_3)
  have hb : t.val * 1024 + r.val < 32768 := by have := r.isLt; omega
  have he : ((cfg3.win 3).blk t).view.emb (ix2 r n) = (ix2 (⟨t.val * 1024 + r.val, hb⟩ : Fin 32768) n : S32768x2048.Idx) := by
    blk_ext [idx3 t]
  rw [he]
  pointwise [k3_pay1, outArr]
  blk_point [iblk3, idx3 t]

end Cert.KernelIdeal.Mixer
-- ==== Proof.Words.lean ====
/-
  The words of the relative position and of the mask, and the two lookups of the relative bias.
-/
module

public import proofs.«01_k».proof.Proof.Forms
public import proofs.«01_k».proof.KernelIdeal
public import proofs.«01_k».proof.ReferenceIdeal
public import Idealize.ShloMosaic.Lib.ValueIdxCore

@[expose] public section

set_option maxRecDepth 16384

noncomputable section

open Idealize.ShloMosaic

namespace Cert.Forms

/-- The column of the bias table for a query `z` places after the key: `z` clipped to −63 … 256, counted from −63. -/
def relCol (z : ℤ) : Fin 320 := ⟨(min 256 (max (-63) z) + 63).toNat, by omega⟩

/-- The clipped relative position. -/
def clipWord (w : BitVec 32) : BitVec 32 := IntOp.addi (IntOp.minsi 256#32 (IntOp.maxsi 4294967233#32 w)) 63#32

/-- The word the table is looked up at: a negative one would count from the table's end. -/
def colWord (w : BitVec 32) : BitVec 32 :=
  Scalar.select (IntOp.cmpi .slt (clipWord w) 0#32) (IntOp.addi (clipWord w) 320#32) (clipWord w)

theorem maxsi_toInt (x y : BitVec 32) : (IntOp.maxsi x y).toInt = max x.toInt y.toInt := by
  unfold IntOp.maxsi
  rw [BitVec.slt_eq_decide]
  split <;> rename_i h <;> simp only [decide_eq_true_eq] at h <;> omega

theorem minsi_toInt (x y : BitVec 32) : (IntOp.minsi x y).toInt = min x.toInt y.toInt := by
  unfold IntOp.minsi
  rw [BitVec.slt_eq_decide]
  split <;> rename_i h <;> simp only [decide_eq_true_eq] at h <;> omega

theorem clipWord_toInt (w : BitVec 32) : (clipWord w).toInt = min 256 (max (-63) w.toInt) + 63 := by
  have h : (IntOp.minsi 256#32 (IntOp.maxsi 4294967233#32 w)).toInt = min 256 (max (-63) w.toInt) := by
    rw [minsi_toInt, maxsi_toInt]; rfl
  show (_ + _ : BitVec 32).toInt = _
  rw [BitVec.toInt_add, h, show (63#32 : BitVec 32).toInt = 63 from rfl, Int.bmod_eq_of_le (by omega) (by omega)]

/-- The looked-up column, read signed and clamped to the table: the relative position's. -/
theorem colWord_col (w : BitVec 32) (z : ℤ) (hz : w.toInt = z) : min (colWord w).toInt.toNat 319 = (relCol z).val := by
  have h := clipWord_toInt w
  have h0 : IntOp.cmpi .slt (clipWord w) 0#32 = 0#1 := by
    show BitVec.ofBool ((clipWord w).slt 0#32) = _
    rw [BitVec.slt_eq_decide, show (0#32 : BitVec 32).toInt = 0 from rfl, decide_eq_false (by omega)]
    rfl
  unfold colWord
  rw [h0]
  show min (clipWord w).toInt.toNat 319 = (min 256 (max (-63) z) + 63).toNat
  omega

/-- A small number as a word, read signed. -/
theorem ofNat_toInt (n : ℕ) (h : n < 4096) : (BitVec.ofNat 32 n).toInt = n := by
  rw [BitVec.toInt_eq_toNat_cond, BitVec.toNat_ofNat, Nat.mod_eq_of_lt (by omega), if_pos (by omega)]

theorem sub_toInt (a b : ℕ) (ha : a < 4096) (hb : b < 4096) : (IntOp.subi (BitVec.ofNat 32 a) (BitVec.ofNat 32 b)).toInt = (a : ℤ) - b := by
  show (_ - _ : BitVec 32).toInt = _
  rw [BitVec.toInt_sub, ofNat_toInt a ha, ofNat_toInt b hb, Int.bmod_eq_of_le (by omega) (by omega)]

theorem shift_toInt (a : ℕ) (ha : a < 4096) : (IntOp.addi (IntOp.subi (BitVec.ofNat 32 a) 768#32) 512#32).toInt = (a : ℤ) - 256 := by
  show (_ + _ : BitVec 32).toInt = _
  rw [BitVec.toInt_add, show (768#32 : BitVec 32) = BitVec.ofNat 32 768 from rfl, sub_toInt a 768 ha (by omega),
    show (512#32 : BitVec 32).toInt = 512 from rfl, Int.bmod_eq_of_le (by omega) (by omega)]
  omega

/-- A row's chunk of 64, as the signed quotient of words. -/
theorem chunk_word (a : ℕ) (ha : a < 4096) : IntOp.divsi .host (BitVec.ofNat 32 a) 64#32 = BitVec.ofNat 32 (a / 64) := by
  have hc : ¬ IntOp.SDivCorner (BitVec.ofNat 32 a) 64#32 := by
    unfold IntOp.SDivCorner
    rintro (h | ⟨-, h⟩) <;> exact absurd h (by decide)
  unfold IntOp.divsi
  rw [if_neg hc, BitVec.sdiv_eq]
  have h1 : (BitVec.ofNat 32 a).msb = false := by
    rw [BitVec.msb_eq_decide, BitVec.toNat_ofNat, Nat.mod_eq_of_lt (by omega)]
    exact decide_eq_false (by omega)
  rw [h1, show (64#32 : BitVec 32).msb = false from rfl]
  show (BitVec.ofNat 32 a).udiv 64#32 = _
  refine BitVec.eq_of_toNat_eq ?_
  rw [BitVec.udiv_eq, BitVec.toNat_udiv, BitVec.toNat_ofNat, BitVec.toNat_ofNat, BitVec.toNat_ofNat, Nat.mod_eq_of_lt (by omega), Nat.mod_eq_of_lt (by omega), Nat.mod_eq_of_lt (by omega)]

/-- Whether the query's row sees the key's: the same chunk of 64 or one of the eight before it. -/
def Seen (t u : ℕ) : Prop := u / 64 ≤ t / 64 ∧ t / 64 ≤ u / 64 + 8

instance (t u : ℕ) : Decidable (Seen t u) := inferInstanceAs (Decidable (_ ∧ _))

theorem seen_word (t u : ℕ) (ht : t < 4096) (hu : u < 4096) :
    IntOp.andi (IntOp.cmpi .sle (BitVec.ofNat 32 (u / 64)) (BitVec.ofNat 32 (t / 64)))
      (IntOp.cmpi .sle (IntOp.subi (BitVec.ofNat 32 (t / 64)) 8#32) (BitVec.ofNat 32 (u / 64))) = BitVec.ofBool (decide (Seen t u)) := by
  show BitVec.ofBool (BitVec.sle _ _) &&& BitVec.ofBool (BitVec.sle _ _) = _
  rw [BitVec.sle_eq_decide, BitVec.sle_eq_decide, show (8#32 : BitVec 32) = BitVec.ofNat 32 8 from rfl, sub_toInt _ _ (by omega) (by omega),
    ofNat_toInt _ (by omega), ofNat_toInt _ (by omega)]
  rw [show ∀ p q : Bool, BitVec.ofBool p &&& BitVec.ofBool q = BitVec.ofBool (p && q) by decide]
  congr 1
  unfold Seen
  rw [← Bool.decide_and]
  exact decide_eq_decide.2 (by omega)

/-- The kernel's lookup: a column for each of 1024 positions. -/
theorem lookup_row [Cert.KernelIdeal.Facts₀] (x : FVec Ideal Cert.KernelIdeal.S16x320 .f32) (idx : IVec Cert.KernelIdeal.S1024x1 32) (h : Fin 16) (p : Fin 1024) :
    Host.gather Cert.KernelIdeal.gather_S16x320_S1024x1_S16x1024_0_1_n_n_1_1_161 x idx (ix2 h p)
      = x (ix2 h ⟨min (idx (ix2 p 0)).toInt.toNat 319, by omega⟩) := by
  unfold Host.gather
  congr 1
  funext a
  refine Fin.ext ?_
  match a with
  | ⟨0, _⟩ =>
    show GatherDims.start Cert.KernelIdeal.gather_S16x320_S1024x1_S16x1024_0_1_n_n_1_1_161 (ix2 h p) idx 0 + GatherDims.batchCoord Cert.KernelIdeal.gather_S16x320_S1024x1_S16x1024_0_1_n_n_1_1_161 (ix2 h p) 0 + GatherDims.offCoord Cert.KernelIdeal.gather_S16x320_S1024x1_S16x1024_0_1_n_n_1_1_161 (ix2 h p) 0 = h.val
    rw [GatherDims.batchCoord_eq_zero _ _ _ List.not_mem_nil]
    unfold GatherDims.start GatherDims.offCoord
    rw [dif_neg (show ¬ (0 : Fin 2) ∈ (Cert.KernelIdeal.gather_S16x320_S1024x1_S16x1024_0_1_n_n_1_1_161).startIndexMap from (by decide : ¬ (0 : Fin 2) ∈ [(1 : Fin 2)])),
      dif_pos (show (0 : Fin 2) ∈ (Cert.KernelIdeal.gather_S16x320_S1024x1_S16x1024_0_1_n_n_1_1_161).sKept from (GatherDims.mem_sKept _ _).2 ⟨(by decide : ¬ (0 : Fin 2) ∈ [(1 : Fin 2)]), List.not_mem_nil⟩)]
    rw [Nat.zero_add]
    rfl
  | ⟨1, _⟩ =>
    show GatherDims.start Cert.KernelIdeal.gather_S16x320_S1024x1_S16x1024_0_1_n_n_1_1_161 (ix2 h p) idx 1 + GatherDims.batchCoord Cert.KernelIdeal.gather_S16x320_S1024x1_S16x1024_0_1_n_n_1_1_161 (ix2 h p) 1 + GatherDims.offCoord Cert.KernelIdeal.gather_S16x320_S1024x1_S16x1024_0_1_n_n_1_1_161 (ix2 h p) 1 = min (idx (ix2 p 0)).toInt.toNat 319
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (Cert.KernelIdeal.gather_S16x320_S1024x1_S16x1024_0_1_n_n_1_1_161).startIndexMap from List.mem_singleton.mpr rfl)]
    have hsi : GatherDims.siIdx Cert.KernelIdeal.gather_S16x320_S1024x1_S16x1024_0_1_n_n_1_1_161 (ix2 h p) ⟨List.idxOf (1 : Fin 2) (Cert.KernelIdeal.gather_S16x320_S1024x1_S16x1024_0_1_n_n_1_1_161).startIndexMap,
        List.idxOf_lt_length_iff.2 (List.mem_singleton.mpr rfl)⟩ = (ix2 p 0) := by
      funext b; refine Fin.ext ?_
      match b with
      | ⟨0, _⟩ => rfl
      | ⟨1, _⟩ => rfl
    rw [hsi]
    rfl

/-- The reference's lookup: a column for each query and key. -/
theorem lookup_pair [Cert.ReferenceIdeal.Facts₀] (x : FVec Ideal Cert.ReferenceIdeal.S16x320 .f32) (idx : IVec Cert.ReferenceIdeal.S4096x4096x1 32) (h : Fin 16) (t u : Fin 4096) :
    Host.gather Cert.ReferenceIdeal.gather_S16x320_S4096x4096x1_S16x4096x4096_0_1_n_n_1_2_161 x idx (ix3 h t u)
      = x (ix2 h ⟨min (idx (ix3 t u 0)).toInt.toNat 319, by omega⟩) := by
  unfold Host.gather
  congr 1
  funext a
  refine Fin.ext ?_
  match a with
  | ⟨0, _⟩ =>
    show GatherDims.start Cert.ReferenceIdeal.gather_S16x320_S4096x4096x1_S16x4096x4096_0_1_n_n_1_2_161 (ix3 h t u) idx 0 + GatherDims.batchCoord Cert.ReferenceIdeal.gather_S16x320_S4096x4096x1_S16x4096x4096_0_1_n_n_1_2_161 (ix3 h t u) 0 + GatherDims.offCoord Cert.ReferenceIdeal.gather_S16x320_S4096x4096x1_S16x4096x4096_0_1_n_n_1_2_161 (ix3 h t u) 0 = h.val
    rw [GatherDims.batchCoord_eq_zero _ _ _ List.not_mem_nil]
    unfold GatherDims.start GatherDims.offCoord
    rw [dif_neg (show ¬ (0 : Fin 2) ∈ (Cert.ReferenceIdeal.gather_S16x320_S4096x4096x1_S16x4096x4096_0_1_n_n_1_2_161).startIndexMap from (by decide : ¬ (0 : Fin 2) ∈ [(1 : Fin 2)])),
      dif_pos (show (0 : Fin 2) ∈ (Cert.ReferenceIdeal.gather_S16x320_S4096x4096x1_S16x4096x4096_0_1_n_n_1_2_161).sKept from (GatherDims.mem_sKept _ _).2 ⟨(by decide : ¬ (0 : Fin 2) ∈ [(1 : Fin 2)]), List.not_mem_nil⟩)]
    rw [Nat.zero_add]
    rfl
  | ⟨1, _⟩ =>
    show GatherDims.start Cert.ReferenceIdeal.gather_S16x320_S4096x4096x1_S16x4096x4096_0_1_n_n_1_2_161 (ix3 h t u) idx 1 + GatherDims.batchCoord Cert.ReferenceIdeal.gather_S16x320_S4096x4096x1_S16x4096x4096_0_1_n_n_1_2_161 (ix3 h t u) 1 + GatherDims.offCoord Cert.ReferenceIdeal.gather_S16x320_S4096x4096x1_S16x4096x4096_0_1_n_n_1_2_161 (ix3 h t u) 1 = min (idx (ix3 t u 0)).toInt.toNat 319
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (Cert.ReferenceIdeal.gather_S16x320_S4096x4096x1_S16x4096x4096_0_1_n_n_1_2_161).startIndexMap from List.mem_singleton.mpr rfl)]
    have hsi : GatherDims.siIdx Cert.ReferenceIdeal.gather_S16x320_S4096x4096x1_S16x4096x4096_0_1_n_n_1_2_161 (ix3 h t u) ⟨List.idxOf (1 : Fin 2) (Cert.ReferenceIdeal.gather_S16x320_S4096x4096x1_S16x4096x4096_0_1_n_n_1_2_161).startIndexMap,
        List.idxOf_lt_length_iff.2 (List.mem_singleton.mpr rfl)⟩ = (ix3 t u 0) := by
      funext b; refine Fin.ext ?_
      match b with
      | ⟨0, _⟩ => rfl
      | ⟨1, _⟩ => rfl
      | ⟨2, _⟩ => rfl
    rw [hsi]
    rfl

end Cert.Forms
-- ==== Proof.Fold.lean ====
/-
  The mixer's operands through the host operations and the calls, and what its result is of its arguments.
-/
module

public import proofs.«01_k».proof.Proof.Run
public import proofs.«01_k».proof.Proof.Proj
public import proofs.«01_k».proof.Proof.Bias
public import proofs.«01_k».proof.Proof.BandArr
public import proofs.«01_k».proof.Proof.Out
public import proofs.«01_k».proof.Proof.Words
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.KernelIdeal.Mixer

open Cert.KernelIdeal Cert.KernelIdeal.Gen Cert.Forms

/-- The arrays handed to the projection: the rows of `x`, both gains of the norms, both gains of the heads. -/
def rows (x : FVec Ideal S8x4096x2048 .f32) : FVec Ideal S32768x2048 .f32 :=
  fun i => x (ix3 ⟨(i 0).val / 4096, by have : (i 0).val < 32768 := (i 0).isLt; omega⟩ ⟨(i 0).val % 4096, Nat.mod_lt _ (by decide)⟩ (i 1))
def gains (g : FVec Ideal S2048 .f32) (g' : FVec Ideal S1x2048 .f32) : FVec Ideal S2x2048 .f32 :=
  fun i => if (i 0).val = 0 then g (ix1 (i 1)) else g' (ix2 0 (i 1))
def headGains (g : FVec Ideal S128 .f32) (g' : FVec Ideal S1x128 .f32) : FVec Ideal S2x128 .f32 :=
  fun i => if (i 0).val = 0 then g (ix1 (i 1)) else g' (ix2 0 (i 1))
/-- A weight without its leading axis. -/
def square (w : FVec Ideal S1x2048x2048 .f32) : FVec Ideal S2048x2048 .bf16 := fun i => w (ix3 0 (i 0) (i 1))
/-- The bias table laid out along the band: position `p` holds the relative position `p − 256`. -/
def relRow (e : FVec Ideal S1x16x320 .f32) : FVec Ideal S16x1x1024 .f32 := fun i => e (ix3 0 (i 0) (relCol ((i 2).val - 256)))

section
variable (v : Valuation τ sig (Elt Ideal))

theorem host0_v0 : (StableHlo.after (hostOps0 (F := Ideal)) v (Proc.devRef .tc main_v0) : FVec Ideal S32768x2048 .f32) = rows (v (Proc.devRef .tc main_arg0)) := by
  after_results
  funext i
  pointwise [rows]
  done

theorem host0_v8 : (StableHlo.after (hostOps0 (F := Ideal)) v (Proc.devRef .tc main_v8) : FVec Ideal S2x2048 .f32)
    = gains (v (Proc.devRef .tc main_arg1)) (v (Proc.devRef .tc main_arg4)) := by
  after_results
  funext i
  pointwise [gains]
  simp only [Nat.lt_one_iff, dite_eq_ite]

theorem host0_v11 : (StableHlo.after (hostOps0 (F := Ideal)) v (Proc.devRef .tc main_v11) : FVec Ideal S2x128 .f32)
    = headGains (v (Proc.devRef .tc main_arg3)) (v (Proc.devRef .tc main_arg6)) := by
  after_results
  funext i
  pointwise [headGains]
  simp only [Nat.lt_one_iff, dite_eq_ite]

theorem host0_v2 : (StableHlo.after (hostOps0 (F := Ideal)) v (Proc.devRef .tc main_v2) : FVec Ideal S2048x4096 .bf16) = (v (Proc.devRef .tc main_arg2) : FVec Ideal S2048x4096 .f32) := by
  after_results
  rfl

theorem host0_v4 : (StableHlo.after (hostOps0 (F := Ideal)) v (Proc.devRef .tc main_v4) : FVec Ideal S2048x2048 .bf16) = square (v (Proc.devRef .tc main_arg5)) := by
  after_results
  funext i
  pointwise [square]
  done

theorem host1_v13 : (StableHlo.after (hostOps1 (F := Ideal)) v (Proc.devRef .tc main_v13) : FVec Ideal S8x4096x6144 .bf16)
    = fun i => (v (Proc.devRef .tc main_v12) : FVec Ideal S32768x6144 .bf16) (ix2 ⟨(i 0).val * 4096 + (i 1).val, by have : (i 0).val < 8 := (i 0).isLt; have : (i 1).val < 4096 := (i 1).isLt; omega⟩ (i 2)) := by
  after_results
  funext i
  pointwise
  done

theorem host1_v14 : (StableHlo.after (hostOps1 (F := Ideal)) v (Proc.devRef .tc main_v14) : FVec Ideal S16x320 .f32)
    = fun i => (v (Proc.devRef .tc main_arg7) : FVec Ideal S1x16x320 .f32) (ix3 0 (i 0) (i 1)) := by
  after_results
  funext i
  pointwise
  done

theorem host1_v19 : (StableHlo.after (hostOps1 (F := Ideal)) v (Proc.devRef .tc main_v19) : IVec S1024 32)
    = fun i => IntOp.addi (IntOp.subi (BitVec.ofNat 32 (i 0).val) 768#32) 512#32 := by
  after_results
  rfl

theorem host1_c1 : (StableHlo.after (hostOps1 (F := Ideal)) v (Proc.devRef .tc main_c_1) : IVec S_ 32) = fun _ => 4294967233#32 := by
  after_results
  rfl

theorem host1_c2 : (StableHlo.after (hostOps1 (F := Ideal)) v (Proc.devRef .tc main_c_2) : IVec S_ 32) = fun _ => 256#32 := by
  after_results
  rfl

theorem host1_1_v20 : (StableHlo.after (hostOps1_1 (F := Ideal)) v (Proc.devRef .tc main_v20) : IVec S1024 32)
    = fun i => IntOp.minsi ((v (Proc.devRef .tc main_c_2) : IVec S_ 32) ix0) (IntOp.maxsi ((v (Proc.devRef .tc main_c_1) : IVec S_ 32) ix0) ((v (Proc.devRef .tc main_v19) : IVec S1024 32) i)) := by
  after_results
  funext i
  show minsi (broadcastInDim S1024 ![] bcast_S_S1024 (v (Proc.devRef .tc main_c_2) : IVec S_ 32))
    (maxsi (broadcastInDim S1024 ![] bcast_S_S1024 (v (Proc.devRef .tc main_c_1) : IVec S_ 32)) (v (Proc.devRef .tc main_v19) : IVec S1024 32)) i = _
  pointwise
  done

theorem host1_2_v30 : (StableHlo.after (hostOps1_2 (F := Ideal)) v (Proc.devRef .tc main_v30) : FVec Ideal S16x1x1024 .f32)
    = fun i => Host.gather gather_S16x320_S1024x1_S16x1024_0_1_n_n_1_1_161 (v (Proc.devRef .tc main_v14) : FVec Ideal S16x320 .f32)
        (fun j : S1024x1.Idx => Scalar.select (IntOp.cmpi .slt (IntOp.addi ((v (Proc.devRef .tc main_v20) : IVec S1024 32) (ix1 (j 0))) 63#32) 0#32)
          (IntOp.addi (IntOp.addi ((v (Proc.devRef .tc main_v20) : IVec S1024 32) (ix1 (j 0))) 63#32) 320#32)
          (IntOp.addi ((v (Proc.devRef .tc main_v20) : IVec S1024 32) (ix1 (j 0))) 63#32)) (ix2 (i 0) (i 2)) := by
  after_results
  funext i
  pointwise
  refine congrArg (fun f => Host.gather gather_S16x320_S1024x1_S16x1024_0_1_n_n_1_1_161 (v (Proc.devRef .tc main_v14) : FVec Ideal S16x320 .f32) f (ix2 (i 0) (i 2))) (funext fun j => ?_)
  pointwise
  done

theorem host3_v33 : (StableHlo.after (hostOps3 (F := Ideal)) v (Proc.devRef .tc main_v33) : FVec Ideal S32768x2048 .bf16)
    = fun i => (v (Proc.devRef .tc main_v32) : FVec Ideal S8x4096x2048 .bf16) (ix3 ⟨(i 0).val / 4096, by have : (i 0).val < 32768 := (i 0).isLt; omega⟩ ⟨(i 0).val % 4096, Nat.mod_lt _ (by decide)⟩ (i 1)) := by
  after_results
  funext i
  pointwise
  done

theorem host3_v35 : (StableHlo.after (hostOps3 (F := Ideal)) v (Proc.devRef .tc main_v35) : FVec Ideal S2048x2048 .bf16) = square (v (Proc.devRef .tc main_arg8)) := by
  after_results
  funext i
  pointwise [square]
  done

theorem host4_v37 : (StableHlo.after (hostOps4 (F := Ideal)) v (Proc.devRef .tc main_v37) : FVec Ideal S8x4096x2048 .f32)
    = fun i => (v (Proc.devRef .tc main_v36) : FVec Ideal S32768x2048 .f32) (ix2 ⟨(i 0).val * 4096 + (i 1).val, by have : (i 0).val < 8 := (i 0).isLt; have : (i 1).val < 4096 := (i 1).isLt; omega⟩ (i 2)) := by
  after_results
  funext i
  pointwise
  done
end

end Cert.KernelIdeal.Mixer
-- ==== Proof.FoldRun.lean ====
/-
  The mixer's result array, as a function of its arguments.
-/
module

public import proofs.«01_k».proof.Proof.Fold

@[expose] public section

set_option maxRecDepth 16384

noncomputable section

open Idealize.ShloMosaic Idealize.ShloMosaic.TcCoe Idealize.SL.Sem

namespace Cert.KernelIdeal.Mixer

open Cert.KernelIdeal Cert.KernelIdeal.Gen Cert.Forms

/-- The projection of every token, by batch and position. -/
def kvq (x : FVec Ideal S8x4096x2048 .f32) (g : FVec Ideal S2048 .f32) (w : FVec Ideal S2048x4096 .f32) (gk : FVec Ideal S128 .f32)
    (g' : FVec Ideal S1x2048 .f32) (w' : FVec Ideal S1x2048x2048 .f32) (gq : FVec Ideal S1x128 .f32) : FVec Ideal S8x4096x6144 .bf16 :=
  fun i => projArr (rows x) (gains g g') (headGains gk gq) w (square w')
    (ix2 ⟨(i 0).val * 4096 + (i 1).val, by have : (i 0).val < 8 := (i 0).isLt; have : (i 1).val < 4096 := (i 1).isLt; omega⟩ (i 2))

/-- The attention's result as one row for each token. -/
def flat (o : FVec Ideal S8x4096x2048 .bf16) : FVec Ideal S32768x2048 .bf16 :=
  fun i => o (ix3 ⟨(i 0).val / 4096, by have : (i 0).val < 32768 := (i 0).isLt; omega⟩ ⟨(i 0).val % 4096, Nat.mod_lt _ (by decide)⟩ (i 1))

/-- The mixer of its arguments: projection, bias, banded attention, output projection with the residual. -/
def mixArr (x : FVec Ideal S8x4096x2048 .f32) (g : FVec Ideal S2048 .f32) (w : FVec Ideal S2048x4096 .f32) (gk : FVec Ideal S128 .f32)
    (g' : FVec Ideal S1x2048 .f32) (w' : FVec Ideal S1x2048x2048 .f32) (gq : FVec Ideal S1x128 .f32) (e : FVec Ideal S1x16x320 .f32)
    (wo : FVec Ideal S1x2048x2048 .f32) : FVec Ideal S8x4096x2048 .f32 :=
  fun i => outArr (rows x) (flat (bandArr (kvq x g w gk g' w' gq) (biasArr (relRow e)))) (square wo)
    (ix2 ⟨(i 0).val * 4096 + (i 1).val, by have : (i 0).val < 8 := (i 0).isLt; have : (i 1).val < 4096 := (i 1).isLt; omega⟩ (i 2))

variable (m : (ℓ : Loc nD τ sig) → Buf (Elt Ideal) ℓ) (ρ : Dev nD → PrngReg) (c : Dev nD)

/-- The projection's result. -/
theorem at_v12 : (W2 m ρ c (Proc.devRef .tc main_v12) : FVec Ideal S32768x6144 .bf16)
    = projArr (rows (m ((c : Thread nD τ).loc main_arg0))) (gains (m ((c : Thread nD τ).loc main_arg1)) (m ((c : Thread nD τ).loc main_arg4)))
        (headGains (m ((c : Thread nD τ).loc main_arg3)) (m ((c : Thread nD τ).loc main_arg6))) (m ((c : Thread nD τ).loc main_arg2))
        (square (m ((c : Thread nD τ).loc main_arg5))) := by
  have e := (W2_arr m ρ c 5).trans (proj_final (V1 m ρ) c)
  rw [show V1 m ρ c (Pipeline.arrRef spec0 0) = rows _ from host0_v0 (W0 m ρ c), show V1 m ρ c (Pipeline.arrRef spec0 1) = gains _ _ from host0_v8 (W0 m ρ c),
    show V1 m ρ c (Pipeline.arrRef spec0 2) = headGains _ _ from host0_v11 (W0 m ρ c), show V1 m ρ c (Pipeline.arrRef spec0 3) = _ from host0_v2 (W0 m ρ c),
    show V1 m ρ c (Pipeline.arrRef spec0 4) = square _ from host0_v4 (W0 m ρ c)] at e
  exact e

/-- The clipped positions. -/
theorem at_v20 : (W4 m ρ c (Proc.devRef .tc main_v20) : IVec S1024 32)
    = fun i => IntOp.minsi 256#32 (IntOp.maxsi 4294967233#32 (IntOp.addi (IntOp.subi (BitVec.ofNat 32 (i 0).val) 768#32) 512#32)) := by
  refine (host1_1_v20 (W3 m ρ c)).trans ?_
  rw [show W3 m ρ c (Proc.devRef .tc main_c_2) = _ from host1_c2 (W2 m ρ c), show W3 m ρ c (Proc.devRef .tc main_c_1) = _ from host1_c1 (W2 m ρ c),
    show W3 m ρ c (Proc.devRef .tc main_v19) = _ from host1_v19 (W2 m ρ c)]
  rfl

/-- The bias table laid out along the band. -/
theorem at_v30 : (W5 m ρ c (Proc.devRef .tc main_v30) : FVec Ideal S16x1x1024 .f32) = relRow (m ((c : Thread nD τ).loc main_arg7)) := by
  refine (host1_2_v30 (W4 m ρ c)).trans ?_
  rw [at_v20 m ρ c, show W4 m ρ c (Proc.devRef .tc main_v14) = _ from (W4_of m ρ c main_v14 (by decide)).trans (host1_v14 (W2 m ρ c)),
    W2_args m ρ c main_arg7 (by decide)]
  funext i
  refine (lookup_row _ _ (i 0) (i 2)).trans ?_
  unfold relRow
  refine congrArg (m ((c : Thread nD τ).loc main_arg7) : FVec Ideal S1x16x320 .f32) (congrArg (ix3 0 (i 0)) (Fin.ext ?_))
  have hi : (i 2).val < 1024 := (i 2).isLt
  exact colWord_col _ _ (shift_toInt (i 2).val (by omega))

/-- The band's bias. -/
theorem at_v31 : (W6 m ρ c (Proc.devRef .tc main_v31) : FVec Ideal S16x768x256 .f32) = biasArr (relRow (m ((c : Thread nD τ).loc main_arg7))) := by
  have e := (W6_arr m ρ c 1).trans (bias_final (V5 m ρ) c)
  rw [show V5 m ρ c (Pipeline.arrRef spec1 0) = _ from at_v30 m ρ c] at e
  exact e

/-- The projection by batch and position, where the attention reads it. -/
theorem at_v13 : (W6 m ρ c (Proc.devRef .tc main_v13) : FVec Ideal S8x4096x6144 .bf16)
    = kvq (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (W6_of m ρ c main_v13 (by decide)).trans ((W5_of m ρ c main_v13 (by decide)).trans ((W4_of m ρ c main_v13 (by decide)).trans ((host1_v13 (W2 m ρ c)).trans ?_)))
  rw [at_v12 m ρ c]
  rfl

/-- The attention's result. -/
theorem at_v32 : (W7 m ρ c (Proc.devRef .tc main_v32) : FVec Ideal S8x4096x2048 .bf16)
    = bandArr (kvq (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)))
        (biasArr (relRow (m ((c : Thread nD τ).loc main_arg7)))) := by
  have e := (W7_arr m ρ c 4).trans (band_final (V6 m ρ) c)
  rw [show V6 m ρ c (Pipeline.arrRef spec2 0) = _ from at_v13 m ρ c, show V6 m ρ c (Pipeline.arrRef spec2 3) = _ from at_v31 m ρ c] at e
  exact e

/-- The tokens' rows, where the output projection adds them. -/
theorem at_v0 : (W8 m ρ c (Proc.devRef .tc main_v0) : FVec Ideal S32768x2048 .f32) = rows (m ((c : Thread nD τ).loc main_arg0)) :=
  (W8_of m ρ c main_v0 (by decide)).trans ((W7_of m ρ c main_v0 (by decide)).trans ((W6_of m ρ c main_v0 (by decide)).trans ((W5_of m ρ c main_v0 (by decide)).trans
    ((W4_of m ρ c main_v0 (by decide)).trans ((W3_of m ρ c main_v0 (by decide)).trans ((W2_of m ρ c main_v0 (by decide)).trans (host0_v0 (W0 m ρ c))))))))

/-- The mixer's result. -/
theorem at_v37 : (W10 m ρ c (Proc.devRef .tc main_v37) : FVec Ideal S8x4096x2048 .f32)
    = mixArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  refine (host4_v37 (W9 m ρ c)).trans ?_
  have e := (W9_arr m ρ c 3).trans (out_final (V8 m ρ) c)
  rw [show V8 m ρ c (Pipeline.arrRef spec3 0) = _ from at_v0 m ρ c, show V8 m ρ c (Pipeline.arrRef spec3 1) = _ from host3_v33 (W7 m ρ c),
    show V8 m ρ c (Pipeline.arrRef spec3 2) = _ from host3_v35 (W7 m ρ c), at_v32 m ρ c, W7_args m ρ c main_arg8 (by decide)] at e
  rw [show W9 m ρ c (Proc.devRef .tc main_v36) = _ from e]
  rfl

end Cert.KernelIdeal.Mixer
-- ==== Proof.Ref.lean ====
/-
  The reference's stages, read at an index.
-/
module

public import proofs.«01_k».proof.Proof.Forms
public import proofs.«01_k».proof.Proof.Words
public import proofs.«01_k».proof.Proof.Gen.ReferenceIdeal.Read
public import Idealize.ShloMosaic.Lib.Pointwise
public import Idealize.ShloMosaic.Lib.WordCmp

@[expose] public section

set_option maxRecDepth 16384

noncomputable section

open Idealize.ShloMosaic

namespace Cert.ReferenceIdeal.Stage

open Cert.ReferenceIdeal Cert.ReferenceIdeal.Gen Cert.ReferenceIdeal.Read Cert.Forms

variable (x0 : FVec Ideal S8x4096x2048 .f32) (x1 : FVec Ideal S2048 .f32) (x2 : FVec Ideal S2048x4096 .f32) (x3 : FVec Ideal S128 .f32)
  (x4 : FVec Ideal S1x2048 .f32) (x5 : FVec Ideal S1x2048x2048 .f32) (x6 : FVec Ideal S1x128 .f32) (x7 : FVec Ideal S1x16x320 .f32) (x8 : FVec Ideal S1x2048x2048 .f32)

/-- The key and value projection of a token. -/
theorem kv_at (b : Fin 8) (t : Fin 4096) (n : Fin 4096) : val_main_v13 (F := Ideal) x0 x1 x2 (ix3 b t n)
    = ∑ l : Fin 2048, norm (fun l => x0 (ix3 b t l)) (fun l => x1 (ix1 l)) l * x2 (ix2 l n) := by
  pointwise [val_main_v13, val_main_v12, val_main_v11, val_main_v10, val_main_v9, val_main_v8, val_main_v7, val_main_v6, val_main_v5, val_main_v4, val_main_v3, val_main_v2,
    val_main_v1, val_main_v0, val_main_cst, val_main_cst_0, val_main_cst_1]
  rfl

/-- A key head. -/
theorem k_at (b : Fin 8) (u : Fin 4096) (h : Fin 16) (d : Fin 128) : val_main_v28 (F := Ideal) x0 x1 x2 x3 (ix4 b u h d)
    = unitRms (Ideal.ofBits .f32 0x43000000#32) (fun d : Fin 128 => val_main_v13 (F := Ideal) x0 x1 x2 (ix3 b u ⟨h.val * 128 + d.val, by omega⟩)) d * x3 (ix1 d) := by
  pointwise [val_main_v28, val_main_v27, val_main_v26, val_main_v25, val_main_v24, val_main_v23, val_main_v22, val_main_v21, val_main_v20, val_main_v19, val_main_v18, val_main_v17,
    val_main_v16, val_main_v15, val_main_v14, val_main_cst_2, val_main_cst_3, val_main_cst_4]
  rfl

/-- A value head. -/
theorem v_at (b : Fin 8) (u : Fin 4096) (h : Fin 16) (d : Fin 128) : val_main_v30 (F := Ideal) x0 x1 x2 (ix4 b u h d)
    = val_main_v13 (F := Ideal) x0 x1 x2 (ix3 b u ⟨2048 + (h.val * 128 + d.val), by omega⟩) := by
  pointwise [val_main_v30, val_main_v29]
  done

/-- The query projection of a token. -/
theorem qp_at (b : Fin 8) (t : Fin 4096) (n : Fin 2048) : val_main_v46 (F := Ideal) x0 x4 x5 (ix3 b t n)
    = ∑ l : Fin 2048, norm (fun l => x0 (ix3 b t l)) (fun l => x4 (ix2 0 l)) l * x5 (ix3 0 l n) := by
  pointwise [val_main_v46, val_main_v45, val_main_v44, val_main_v43, val_main_v42, val_main_v41, val_main_v40, val_main_v39, val_main_v38, val_main_v37, val_main_v36, val_main_v35,
    val_main_v34, val_main_v33, val_main_v32, val_main_v31, val_main_cst_5, val_main_cst_6, val_main_cst_7]
  rfl

/-- A query head. -/
theorem q_at (b : Fin 8) (t : Fin 4096) (h : Fin 16) (d : Fin 128) : val_main_v61 (F := Ideal) x0 x4 x5 x6 (ix4 b t h d)
    = unitRms (Ideal.ofBits .f32 0x43000000#32) (fun d : Fin 128 => val_main_v46 (F := Ideal) x0 x4 x5 (ix3 b t ⟨h.val * 128 + d.val, by omega⟩)) d * x6 (ix2 0 d) := by
  pointwise [val_main_v61, val_main_v60, val_main_v59, val_main_v58, val_main_v57, val_main_v56, val_main_v55, val_main_v54, val_main_v53, val_main_v52, val_main_v51, val_main_v50,
    val_main_v49, val_main_v48, val_main_v47, val_main_cst_8, val_main_cst_9, val_main_cst_10]
  rfl

/-- The relative bias of a query and a key. -/
theorem rel_at (h : Fin 16) (t u : Fin 4096) : val_main_v75 (F := Ideal) x7 (ix3 h t u) = x7 (ix3 0 h (relCol ((t.val : ℤ) - u.val))) := by
  have e : val_main_v64 (F := Ideal) x7 = fun i => x7 (ix3 0 (i 0) (i 1)) := by
    funext i
    pointwise [val_main_v64]
    done
  have w : val_main_v74 (F := Ideal) = fun i => colWord (IntOp.subi (BitVec.ofNat 32 (i 0).val) (BitVec.ofNat 32 (i 1).val)) := by
    funext i
    pointwise [val_main_v74, val_main_v73, val_main_v72, val_main_v71, val_main_v70, val_main_v69, val_main_v68, val_main_v67, val_main_v66, val_main_v65, val_main_v63, val_main_v62,
      val_main_call0_v0, val_main_call0_v1, val_main_call0_v2, val_main_call0_v3, val_main_call0_v4, val_main_c, val_main_c_11, val_main_c_12, val_main_c_13, val_main_c_14]
    rfl
  unfold val_main_v75
  rw [e, w]
  refine (lookup_pair _ _ h t u).trans (congrArg x7 (congrArg (ix3 0 h) (Fin.ext ?_)))
  exact colWord_col _ _ (sub_toInt t.val u.val t.isLt u.isLt)

/-- The mask of a query and a key. -/
theorem seen_at (t u : Fin 4096) : val_main_v84 (F := Ideal) (ix2 t u) = BitVec.ofBool (decide (Seen t.val u.val)) := by
  rw [← seen_word t.val u.val t.isLt u.isLt, ← chunk_word t.val t.isLt, ← chunk_word u.val u.isLt]
  pointwise [val_main_v84, val_main_v83, val_main_v82, val_main_v81, val_main_v80, val_main_v79, val_main_v78, val_main_v77, val_main_v76, val_main_v63, val_main_v62,
    val_main_c_15, val_main_c_16, val_main_c_17]

/-- A masked logit. -/
theorem logit_at (b : Fin 8) (h : Fin 16) (t u : Fin 4096) : val_main_v93 (F := Ideal) x0 x1 x2 x3 x4 x5 x6 x7 (ix4 b h t u)
    = if Seen t.val u.val then
        Ideal.div (∑ d : Fin 128, val_main_v61 (F := Ideal) x0 x4 x5 x6 (ix4 b t h d) * val_main_v28 (F := Ideal) x0 x1 x2 x3 (ix4 b u h d)) (Ideal.sqrt (Ideal.ofBits .f32 0x43000000#32))
          + val_main_v75 (F := Ideal) x7 (ix3 h t u)
      else Ideal.ofBits .f32 0xFF800000#32 := by
  pointwise [val_main_v93, val_main_v92, val_main_v91, val_main_v90, val_main_v89, val_main_v88, val_main_v87, val_main_v86, val_main_v85, val_main_call1_v0, val_main_call1_v1, val_main_call1_v2,
    val_main_cst_18, val_main_cst_19]
  rw [seen_at]
  by_cases hs : Seen t.val u.val
  · rw [if_pos hs, decide_eq_true hs]; rfl
  · rw [if_neg hs, decide_eq_false hs]; rfl

/-- The pattern of minus infinity. -/
theorem minusInf : Ideal.ofBits .f32 0xFF800000#32 = ⊥ := by simp [Ideal.ofBits, Ideal.ieee]

/-- A maximum folded up from minus infinity is the supremum. -/
theorem fold_max_bot {n : ℕ} (f : Fin n → EReal) : Finset.fold max ⊥ f Finset.univ = Finset.univ.sup f := rfl

theorem bot_max (a : EReal) : max ⊥ a = a := max_eq_right bot_le

/-- The maximum over the keys. -/
theorem reduce_top (f : FVec Ideal S8x16x4096x4096 .f32) (b : Fin 8) (h : Fin 16) (t : Fin 4096) :
    Host.reduce FloatOps.maximumf f (val_main_cst_20 (F := Ideal)) reducesTo_S8x16x4096x4096_S8x16x4096_d3 h_S_ (ix3 b h t) = Finset.univ.sup (fun u : Fin 4096 => f (ix4 b h t u)) := by
  pointwise [val_main_cst_20]
  rw [minusInf, fold_max_bot]

/-- A row's largest logit. -/
theorem top_at (b : Fin 8) (h : Fin 16) (t : Fin 4096) : val_main_v96 (F := Ideal) x0 x1 x2 x3 x4 x5 x6 x7 (ix3 b h t)
    = Finset.univ.sup (fun u : Fin 4096 => val_main_v93 (F := Ideal) x0 x1 x2 x3 x4 x5 x6 x7 (ix4 b h t u)) := by
  rw [val_main_v96_apply, val_main_v95_apply]
  unfold val_main_v94
  generalize val_main_v93 (F := Ideal) x0 x1 x2 x3 x4 x5 x6 x7 = f
  rw [reduce_top]
  show max (Ideal.ofBits .f32 0xFF800000#32) _ = _
  rw [minusInf, bot_max]

/-- A softmax weight. -/
theorem weight_at (b : Fin 8) (h : Fin 16) (t u : Fin 4096) : val_main_v104 (F := Ideal) x0 x1 x2 x3 x4 x5 x6 x7 (ix4 b h t u)
    = Ideal.div (Ideal.exp (val_main_v93 (F := Ideal) x0 x1 x2 x3 x4 x5 x6 x7 (ix4 b h t u) - val_main_v96 (F := Ideal) x0 x1 x2 x3 x4 x5 x6 x7 (ix3 b h t)))
        (∑ u : Fin 4096, Ideal.exp (val_main_v93 (F := Ideal) x0 x1 x2 x3 x4 x5 x6 x7 (ix4 b h t u) - val_main_v96 (F := Ideal) x0 x1 x2 x3 x4 x5 x6 x7 (ix3 b h t))) := by
  pointwise [val_main_v104, val_main_v103, val_main_v102, val_main_v101, val_main_v100, val_main_v99, val_main_v98, val_main_v97, val_main_cst_22]
  done

/-- The attention's result. -/
theorem attn_at (b : Fin 8) (t : Fin 4096) (n : Fin 2048) : val_main_v107 (F := Ideal) x0 x1 x2 x3 x4 x5 x6 x7 (ix3 b t n)
    = ∑ u : Fin 4096, val_main_v30 (F := Ideal) x0 x1 x2 (ix4 b u ⟨n.val / 128, by omega⟩ ⟨n.val % 128, Nat.mod_lt _ (by decide)⟩)
        * val_main_v104 (F := Ideal) x0 x1 x2 x3 x4 x5 x6 x7 (ix4 b ⟨n.val / 128, by omega⟩ t u) := by
  pointwise [val_main_v107, val_main_v106, val_main_v105]
  done

/-- The mixer's result. -/
theorem out_at (b : Fin 8) (t : Fin 4096) (n : Fin 2048) : val_main_v110 (F := Ideal) x0 x1 x2 x3 x4 x5 x6 x7 x8 (ix3 b t n)
    = x0 (ix3 b t n) + ∑ l : Fin 2048, val_main_v107 (F := Ideal) x0 x1 x2 x3 x4 x5 x6 x7 (ix3 b t l) * x8 (ix3 0 l n) := by
  pointwise [val_main_v110, val_main_v109, val_main_v108]
  done

end Cert.ReferenceIdeal.Stage
-- ==== Proof.Softmax.lean ====
/-
  A softmax whose logits are real or left out (minus infinity), in base two and in base e.
-/
module

public import proofs.«01_k».proof.Proof.Forms

@[expose] public section

noncomputable section

open Idealize.ShloMosaic

namespace Cert.Forms

/-- A sum times a nonnegative real is the sum of the products, whatever the summands. -/
theorem sum_mul_coe {n : ℕ} (f : Fin n → EReal) (r : ℝ) (hr : 0 ≤ r) : (∑ k, f k) * (r : EReal) = ∑ k, f k * (r : EReal) := by
  classical
  induction (Finset.univ : Finset (Fin n)) using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- Finite sums of reals are real. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A weight in base two, from the logit times the logarithm of e. -/
theorem exp2_scaled (L M c : ℝ) (hc : c = (Real.log 2)⁻¹) :
    Ideal.exp2 ((c : EReal) * (L : EReal) - (c : EReal) * (M : EReal)) = Ideal.exp ((L : EReal) - (M : EReal)) := by
  have h2 : Real.log 2 ≠ 0 := ne_of_gt (Real.log_pos (by norm_num))
  rw [← EReal.coe_mul, ← EReal.coe_mul, ← EReal.coe_sub, ← EReal.coe_sub]
  show ((Real.rpow 2 (c * L - c * M) : ℝ) : EReal) = ((Real.exp (L - M) : ℝ) : EReal)
  congr 1
  show (2 : ℝ) ^ (c * L - c * M) = _
  rw [Real.rpow_def_of_pos (by norm_num), hc]
  congr 1
  field_simp

variable {n : ℕ} (L : Fin n → EReal)

/-- The largest of the logits is the one at some key, if one is real: a real. -/
theorem sup_attained (hL : ∀ k, L k = ⊥ ∨ ∃ x : ℝ, L k = x) (k₀ : Fin n) (h₀ : L k₀ ≠ ⊥) :
    ∃ k₁, ∃ M : ℝ, Finset.univ.sup L = L k₁ ∧ L k₁ = M := by
  obtain ⟨k₁, -, h₁⟩ := Finset.exists_mem_eq_sup Finset.univ ⟨k₀, Finset.mem_univ _⟩ L
  rcases hL k₁ with h | ⟨M, h⟩
  · exact absurd (le_bot_iff.1 ((Finset.le_sup (f := L) (Finset.mem_univ k₀)).trans (by rw [h₁, h]))) h₀
  · exact ⟨k₁, M, h₁, h⟩

/-- Logits scaled by a positive real have their maximum scaled. -/
theorem sup_scaled (c : ℝ) (hc : 0 < c) (k₁ : Fin n) (h₁ : Finset.univ.sup L = L k₁) :
    Finset.univ.sup (fun k => (c : EReal) * L k) = (c : EReal) * L k₁ := by
  refine le_antisymm (Finset.sup_le fun k _ => ?_) (Finset.le_sup (f := fun k => (c : EReal) * L k) (Finset.mem_univ k₁))
  exact mul_le_mul_of_nonneg_left (h₁ ▸ Finset.le_sup (f := L) (Finset.mem_univ k)) (EReal.coe_nonneg.2 hc.le)

/-- The softmax-weighted sum: normalised after the sum, in base two over scaled logits, or weight by weight, in base e. -/
theorem softmax_base (v : Fin n → EReal) (hL : ∀ k, L k = ⊥ ∨ ∃ x : ℝ, L k = x) (k₀ : Fin n) (h₀ : L k₀ ≠ ⊥)
    (c : ℝ) (hc : c = (Real.log 2)⁻¹) (L' : Fin n → EReal) (hL' : ∀ k, L' k = (c : EReal) * L k) :
    Ideal.div (∑ k, v k * Ideal.exp2 (L' k - Finset.univ.sup L')) (∑ k, Ideal.exp2 (L' k - Finset.univ.sup L'))
      = ∑ k, v k * Ideal.div (Ideal.exp (L k - Finset.univ.sup L)) (∑ k, Ideal.exp (L k - Finset.univ.sup L)) := by
  have hc0 : 0 < c := by rw [hc]; exact inv_pos.2 (Real.log_pos (by norm_num))
  obtain rfl : L' = fun k => (c : EReal) * L k := funext hL'
  obtain ⟨k₁, M, h₁, hM⟩ := sup_attained L hL k₀ h₀
  rw [sup_scaled L c hc0 k₁ h₁, h₁, hM]
  have hw : ∀ k, ∃ w : ℝ, 0 ≤ w ∧ Ideal.exp (L k - (M : EReal)) = (w : EReal)
      ∧ Ideal.exp2 ((c : EReal) * L k - (c : EReal) * (M : EReal)) = (w : EReal) := by
    intro k
    rcases hL k with h | ⟨x, h⟩
    · refine ⟨0, le_rfl, ?_, ?_⟩
      · rw [h, EReal.bot_sub]; rfl
      · rw [h, EReal.coe_mul_bot_of_pos hc0, EReal.bot_sub]; rfl
    · refine ⟨Real.exp (x - M), (Real.exp_pos _).le, ?_, ?_⟩
      · rw [h, ← EReal.coe_sub]; rfl
      · rw [h, exp2_scaled x M c hc, ← EReal.coe_sub]; rfl
  choose w hw0 he he2 using hw
  have hw1 : w k₁ = 1 := by
    have h := he k₁
    rw [hM, ← EReal.coe_sub, sub_self] at h
    have h' : ((Real.exp 0 : ℝ) : EReal) = (w k₁ : EReal) := h
    rw [Real.exp_zero] at h'
    exact (EReal.coe_eq_coe_iff.1 h').symm
  have hS : 0 < ∑ k, w k := lt_of_lt_of_le (by rw [hw1]; norm_num) (Finset.single_le_sum (fun k _ => hw0 k) (Finset.mem_univ k₁))
  simp only [he, he2]
  rw [coe_sum, Ideal.div_coe hS.ne']
  rw [one_div, sum_mul_coe _ _ (inv_nonneg.2 hS.le)]
  refine Finset.sum_congr rfl fun k _ => ?_
  rw [Ideal.div_coe hS.ne', one_div, mul_assoc]

end Cert.Forms
-- ==== Proof.Real.lean ====
/-
  Values that are real, whatever extended reals they are made from.
-/
module

public import proofs.«01_k».proof.Proof.Softmax

@[expose] public section

noncomputable section

open Idealize.ShloMosaic

namespace Cert.Forms

/-- An extended real that is a real number. -/
def IsReal (x : EReal) : Prop := ∃ r : ℝ, x = r

theorem isReal_of (x : EReal) (hb : x ≠ ⊥) (ht : x ≠ ⊤) : IsReal x := ⟨x.toReal, (EReal.coe_toReal ht hb).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sum {n : ℕ} {f : Fin n → EReal} (hf : ∀ k, IsReal (f k)) : IsReal (∑ k, f k) := by
  choose g hg using hf
  exact ⟨∑ k, g k, by rw [← coe_sum]; exact Finset.sum_congr rfl fun k _ => hg k⟩

/-- The pattern of 128. -/
theorem ofBits_128 : Ideal.ofBits .f32 0x43000000#32 = ((128 : ℝ) : EReal) := by
  simp [Ideal.ofBits, Ideal.ieee, -EReal.coe_mul]
  norm_num

/-- The norms' epsilon is a positive real. -/
theorem eps_pos : ∃ e : ℝ, 0 < e ∧ eps = (e : EReal) := by
  unfold eps
  refine ⟨_, ?_, by simp [Ideal.ofBits, Ideal.ieee]; rfl⟩
  norm_num

/-- A square is not negative, infinite ones included. -/
theorem sq_nonneg_ereal (x : EReal) : 0 ≤ x * x := by
  induction x with
  | bot => simp
  | top => simp
  | coe r => rw [← EReal.coe_mul]; exact EReal.coe_nonneg.2 (mul_self_nonneg r)

/-- A vector divided by its root mean square is real: where an entry is infinite, every quotient is zero. -/
theorem unitRms_real {n : ℕ} (x : Fin n → EReal) (k : Fin n) : IsReal (unitRms (Ideal.ofBits .f32 0x43000000#32) x k) := by
  obtain ⟨e, he, hE⟩ := eps_pos
  unfold unitRms
  rw [ofBits_128, hE, Ideal.div_coe (by norm_num)]
  by_cases h : ∀ l, IsReal (x l)
  · choose y hy using h
    have hs : (∑ l, x l * x l) = ((∑ l, y l * y l : ℝ) : EReal) := by
      rw [← coe_sum]
      exact Finset.sum_congr rfl fun l _ => by rw [hy l, EReal.coe_mul]
    have h0 : 0 ≤ ∑ l, y l * y l := Finset.sum_nonneg fun l _ => mul_self_nonneg _
    rw [hs, ← EReal.coe_mul, ← EReal.coe_add, Ideal.rsqrt_coe]
    have hp : 0 < (∑ l, y l * y l) * (1 / 128) + e := by positivity
    rw [if_neg (not_lt.2 hp.le), if_neg hp.ne']
    exact IsReal.mul ⟨y k, hy k⟩ ⟨_, rfl⟩
  · push Not at h
    obtain ⟨l, hl⟩ := h
    have hsq : x l * x l = ⊤ := by
      by_cases hb : x l = ⊥
      · rw [hb]; exact EReal.bot_mul_bot
      · by_cases ht : x l = ⊤
        · rw [ht]; exact EReal.top_mul_top
        · exact absurd (isReal_of _ hb ht) hl
    have hs : (∑ l, x l * x l) = ⊤ :=
      top_le_iff.1 (hsq ▸ Finset.single_le_sum (f := fun l => x l * x l) (fun k _ => sq_nonneg_ereal (x k)) (Finset.mem_univ l))
    rw [hs, EReal.top_mul_coe_of_pos (by norm_num), EReal.top_add_coe, Ideal.rsqrt_top, mul_zero]
    exact ⟨0, rfl⟩

/-- What a comparison with the pattern of infinity says of an entry. -/
theorem real_of_lt_inf (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine isReal_of x (fun hx => ?_) (fun hx => ?_)
  · rw [hx] at h
    exact absurd h (by simp [Ideal.cmp])
  · rw [hx] at h
    exact absurd h (by simp [Ideal.cmp])

/-- The scaled logit of the kernel: the gain carries `log₂ e / √128`, the bias `log₂ e`. -/
theorem logit_scaled (q k : Fin 128 → EReal) (hq : ∀ d, IsReal (q d)) (hk : ∀ d, IsReal (k d)) (z : EReal) (hz : IsReal z) (c : ℝ) :
    (∑ d, k d * (q d * (((Real.sqrt 128)⁻¹ * c : ℝ) : EReal))) + z * (c : EReal)
      = (c : EReal) * (Ideal.div (∑ d, q d * k d) (Ideal.sqrt (Ideal.ofBits .f32 0x43000000#32)) + z) := by
  choose q' hq' using hq
  choose k' hk' using hk
  obtain ⟨z', rfl⟩ := hz
  have hr : Real.sqrt 128 ≠ 0 := (Real.sqrt_pos.2 (by norm_num)).ne'
  rw [ofBits_128, Ideal.sqrt_coe, if_neg (by norm_num), Ideal.div_coe hr, one_div]
  simp only [hq', hk', ← EReal.coe_mul, coe_sum, ← EReal.coe_add]
  congr 1
  rw [mul_add, Finset.sum_mul, Finset.mul_sum]
  congr 1
  · exact Finset.sum_congr rfl fun d _ => by ring
  · ring

/-- A logit is real. -/
theorem logit_real (q k : Fin 128 → EReal) (hq : ∀ d, IsReal (q d)) (hk : ∀ d, IsReal (k d)) (z : EReal) (hz : IsReal z) :
    IsReal (Ideal.div (∑ d, q d * k d) (Ideal.sqrt (Ideal.ofBits .f32 0x43000000#32)) + z) := by
  have hr : Real.sqrt 128 ≠ 0 := (Real.sqrt_pos.2 (by norm_num)).ne'
  rw [ofBits_128, Ideal.sqrt_coe, if_neg (by norm_num), Ideal.div_coe hr]
  exact ((IsReal.sum fun d => (hq d).mul (hk d)).mul ⟨_, rfl⟩).add hz

end Cert.Forms
-- ==== Proof.Mixer.lean ====
/-
  The kernel's mixer is the reference's.
-/
module

public import proofs.«01_k».proof.Proof.FoldRun
public import proofs.«01_k».proof.Proof.Ref
public import proofs.«01_k».proof.Proof.Real

@[expose] public section

set_option maxRecDepth 16384

noncomputable section

open Idealize.ShloMosaic

namespace Cert.KernelIdeal.Mixer

open Cert.KernelIdeal Cert.KernelIdeal.Gen Cert.Forms Cert.ReferenceIdeal.Stage
open Cert.ReferenceIdeal.Read (val_main_v13 val_main_v28 val_main_v30 val_main_v46 val_main_v61 val_main_v75 val_main_v93 val_main_v96 val_main_v104 val_main_v107 val_main_v110)

/-- A row of tokens, by batch and position. -/
theorem rowOf_rows (x : FVec Ideal S8x4096x2048 .f32) (b : Fin 8) (t : Fin 4096) (h : b.val * 4096 + t.val < 32768) :
    rowOf (rows x) ⟨b.val * 4096 + t.val, h⟩ = fun l => x (ix3 b t l) := by
  have := t.isLt
  funext l
  show x (ix3 ⟨(b.val * 4096 + t.val) / 4096, _⟩ ⟨(b.val * 4096 + t.val) % 4096, _⟩ l) = _
  have e1 : (⟨(b.val * 4096 + t.val) / 4096, by omega⟩ : Fin 8) = b := Fin.ext (by show (b.val * 4096 + t.val) / 4096 = b.val; omega)
  have e2 : (⟨(b.val * 4096 + t.val) % 4096, by omega⟩ : Fin 4096) = t := Fin.ext (by show (b.val * 4096 + t.val) % 4096 = t.val; omega)
  rw [e1, e2]

section
variable (x0 : FVec Ideal S8x4096x2048 .f32) (x1 : FVec Ideal S2048 .f32) (x2 : FVec Ideal S2048x4096 .f32) (x3 : FVec Ideal S128 .f32)
  (x4 : FVec Ideal S1x2048 .f32) (x5 : FVec Ideal S1x2048x2048 .f32) (x6 : FVec Ideal S1x128 .f32) (x7 : FVec Ideal S1x16x320 .f32) (x8 : FVec Ideal S1x2048x2048 .f32)
  (b : Fin 8) (h : Fin 16) (t u : Fin 4096) (d : Fin 128)

/-- A token's key and value columns. -/
theorem rowK_eq (i : Fin 2048) (hr : b.val * 4096 + u.val < 32768) :
    rowK (rowOf (rows x0) ⟨b.val * 4096 + u.val, hr⟩) (gains x1 x4) x2 i = val_main_v13 (F := Ideal) x0 x1 x2 (ix3 b u ⟨i.val, by omega⟩) := by
  rw [kv_at, rowOf_rows]
  rfl

theorem rowV_eq (i : Fin 2048) (hr : b.val * 4096 + u.val < 32768) :
    rowV (rowOf (rows x0) ⟨b.val * 4096 + u.val, hr⟩) (gains x1 x4) x2 i = val_main_v13 (F := Ideal) x0 x1 x2 (ix3 b u ⟨2048 + i.val, by omega⟩) := by
  rw [kv_at, rowOf_rows]
  rfl

/-- A token's query columns. -/
theorem rowQ_eq (i : Fin 2048) (hr : b.val * 4096 + u.val < 32768) :
    rowQ (rowOf (rows x0) ⟨b.val * 4096 + u.val, hr⟩) (gains x1 x4) (square x5) i = val_main_v46 (F := Ideal) x0 x4 x5 (ix3 b u i) := by
  rw [qp_at, rowOf_rows]
  rfl

/-- A row of the projection, by batch and position. -/
theorem kvq_row (n : Fin 6144) (hr : b.val * 4096 + u.val < 32768) : kvq x0 x1 x2 x3 x4 x5 x6 (ix3 b u n)
    = projRow (rowK (rowOf (rows x0) ⟨b.val * 4096 + u.val, hr⟩) (gains x1 x4) x2) (rowV (rowOf (rows x0) ⟨b.val * 4096 + u.val, hr⟩) (gains x1 x4) x2)
        (rowQ (rowOf (rows x0) ⟨b.val * 4096 + u.val, hr⟩) (gains x1 x4) (square x5)) (kGain (headGains x3 x6)) (qGain (headGains x3 x6)) n := rfl

/-- The projection's key heads. -/
theorem kvq_k : kvq x0 x1 x2 x3 x4 x5 x6 (ix3 b u ⟨h.val * 128 + d.val, by omega⟩) = val_main_v28 (F := Ideal) x0 x1 x2 x3 (ix4 b u h d) := by
  rw [kvq_row _ _ _ _ _ _ _ _ _ _ (by omega), projRow_k _ _ _ _ _ _ (h.val * 128) d (fun x => by omega) rfl (by omega), k_at]
  simp only [rowK_eq]
  rfl

/-- The projection's values. -/
theorem kvq_v (hb : (16 + h.val) * 128 + d.val < 6144) :
    kvq x0 x1 x2 x3 x4 x5 x6 (ix3 b u ⟨(16 + h.val) * 128 + d.val, hb⟩) = val_main_v30 (F := Ideal) x0 x1 x2 (ix4 b u h d) := by
  rw [kvq_row _ _ _ _ _ _ _ _ _ _ (by omega), projRow_v _ _ _ _ _ _ ⟨h.val * 128 + d.val, by omega⟩ (by show (16 + h.val) * 128 + d.val = 2048 + (h.val * 128 + d.val); omega), v_at, rowV_eq]

/-- The projection's query heads carry the scale. -/
theorem kvq_q (hb : (32 + h.val) * 128 + d.val < 6144) :
    kvq x0 x1 x2 x3 x4 x5 x6 (ix3 b t ⟨(32 + h.val) * 128 + d.val, hb⟩) = val_main_v61 (F := Ideal) x0 x4 x5 x6 (ix4 b t h d) * qScale := by
  rw [kvq_row _ _ _ _ _ _ _ _ _ _ (by omega), projRow_q _ _ _ _ _ _ (h.val * 128) ((32 + h.val) * 128) d (fun x => by omega) rfl (by omega) (by omega), q_at]
  simp only [rowQ_eq]
  exact (mul_assoc _ _ _).symm

/-- The bias table of a query and a key of its window. -/
theorem bias_at (j : Fin 768) (i : Fin 256) (hj : j.val = u.val + 512 - t.val / 256 * 256) (hi : i.val = t.val % 256) (hw : t.val / 256 * 256 ≤ u.val + 512) :
    biasArr (relRow x7) (ix3 h j i) = if InBand j.val i.val then val_main_v75 (F := Ideal) x7 (ix3 h t u) * log2e else ⊥ := by
  show (if InBand j.val i.val then x7 (ix3 0 h (relCol (((768 + i.val - j.val : ℕ) : ℤ) - 256))) * log2e else ⊥) = _
  rw [rel_at]
  have := j.isLt; have := i.isLt; have := t.isLt
  have e : (((768 + i.val - j.val : ℕ) : ℤ) - 256) = (t.val : ℤ) - u.val := by omega
  rw [e]

theorem log2e_eq : log2e = (((Real.log 2)⁻¹ : ℝ) : EReal) := IdealRules.named_const.ideal_named_scalar _ _ _ _ rfl

theorem qScale_eq : qScale = (((Real.sqrt 128)⁻¹ * (Real.log 2)⁻¹ : ℝ) : EReal) := IdealRules.named_const.ideal_named_scalar _ _ _ _ rfl

theorem log2e_pos : (0 : ℝ) < (Real.log 2)⁻¹ := inv_pos.2 (Real.log_pos (by norm_num))

variable (h3 : ∀ i, IsReal (x3 i)) (h6 : ∀ i, IsReal (x6 i)) (h7 : ∀ i, IsReal (x7 i))

include h3 in
theorem k_real : IsReal (val_main_v28 (F := Ideal) x0 x1 x2 x3 (ix4 b u h d)) := by
  rw [k_at]
  exact (unitRms_real _ _).mul (h3 _)

include h6 in
theorem q_real : IsReal (val_main_v61 (F := Ideal) x0 x4 x5 x6 (ix4 b t h d)) := by
  rw [q_at]
  exact (unitRms_real _ _).mul (h6 _)

include h7 in
theorem rel_real : IsReal (val_main_v75 (F := Ideal) x7 (ix3 h t u)) := by
  rw [rel_at]
  exact h7 _

include h3 h6 h7 in
/-- A logit of the reference is minus infinity or real. -/
theorem logit_shape : val_main_v93 (F := Ideal) x0 x1 x2 x3 x4 x5 x6 x7 (ix4 b h t u) = ⊥ ∨ ∃ r : ℝ, val_main_v93 (F := Ideal) x0 x1 x2 x3 x4 x5 x6 x7 (ix4 b h t u) = r := by
  rw [logit_at, minusInf]
  by_cases hs : Seen t.val u.val
  · rw [if_pos hs]
    exact Or.inr (logit_real _ _ (fun d => q_real x0 x4 x5 x6 b h t d h6) (fun d => k_real x0 x1 x2 x3 b h u d h3) _ (rel_real x7 h t u h7))
  · rw [if_neg hs]
    exact Or.inl rfl

include h3 h6 h7 in
/-- A query sees itself. -/
theorem logit_self : val_main_v93 (F := Ideal) x0 x1 x2 x3 x4 x5 x6 x7 (ix4 b h t t) ≠ ⊥ := by
  rw [logit_at, if_pos (by unfold Seen; omega)]
  obtain ⟨r, hr⟩ := logit_real _ _ (fun d => q_real x0 x4 x5 x6 b h t d h6) (fun d => k_real x0 x1 x2 x3 b h t d h3) _ (rel_real x7 h t t h7)
  rw [hr]
  exact EReal.coe_ne_bot r

include h3 h6 h7 in
/-- The kernel's logits are the reference's, to the base two. -/
theorem bandLogit_eq (h1 : 32 + h.val < 48) (h2 : h.val < 48) :
    bandLogit (headBlk (kvq x0 x1 x2 x3 x4 x5 x6) b ⟨32 + h.val, h1⟩) (headBlk (kvq x0 x1 x2 x3 x4 x5 x6) b ⟨h.val, h2⟩) (biasBlk (biasArr (relRow x7)) h) t u
      = (((Real.log 2)⁻¹ : ℝ) : EReal) * val_main_v93 (F := Ideal) x0 x1 x2 x3 x4 x5 x6 x7 (ix4 b h t u) := by
  have ht := t.isLt; have hu := u.isLt
  have hbot : (((Real.log 2)⁻¹ : ℝ) : EReal) * ⊥ = ⊥ := EReal.coe_mul_bot_of_pos log2e_pos
  rw [logit_at, minusInf]
  unfold bandLogit
  by_cases hw : (t.val / 256 - 2) * 256 ≤ u.val ∧ u.val < (t.val / 256 + 1) * 256
  · rw [dif_pos hw]
    have hj : u.val + 512 - t.val / 256 * 256 < 768 := by omega
    have hS : Seen t.val u.val ↔ InBand (u.val + 512 - t.val / 256 * 256) (t.val % 256) := by unfold Seen InBand; omega
    have hB : biasBlk (biasArr (relRow x7)) h (ix3 0 ⟨u.val + 512 - t.val / 256 * 256, hj⟩ ⟨t.val % 256, Nat.mod_lt _ (by decide)⟩)
        = if Seen t.val u.val then val_main_v75 (F := Ideal) x7 (ix3 h t u) * log2e else ⊥ := by
      show biasArr (relRow x7) (ix3 h ⟨u.val + 512 - t.val / 256 * 256, hj⟩ ⟨t.val % 256, Nat.mod_lt _ (by decide)⟩) = _
      rw [bias_at x7 h t u _ _ rfl rfl (by omega)]
      by_cases hs : Seen t.val u.val
      · rw [if_pos hs, if_pos (hS.1 hs)]
      · rw [if_neg hs, if_neg (fun c => hs (hS.2 c))]
    rw [hB]
    by_cases hs : Seen t.val u.val
    · rw [if_pos hs, if_pos hs, log2e_eq]
      rw [← logit_scaled _ _ (fun d => q_real x0 x4 x5 x6 b h t d h6) (fun d => k_real x0 x1 x2 x3 b h u d h3) _ (rel_real x7 h t u h7) (Real.log 2)⁻¹]
      refine congrArg (· + _) (Finset.sum_congr rfl fun d _ => ?_)
      rw [← qScale_eq, ← kvq_k x0 x1 x2 x3 x4 x5 x6 b h u d, ← kvq_q x0 x1 x2 x3 x4 x5 x6 b h t d (by omega)]
      rfl
    · rw [if_neg hs, if_neg hs, hbot, EReal.add_bot]
  · rw [dif_neg hw, if_neg (by unfold Seen; omega), hbot]

include h3 h6 h7 in
/-- The attention of a head, at a query and a feature. -/
theorem bandHead_eq (n : Fin 2048) (hh : n.val = h.val * 128 + d.val) :
    bandHead (kvq x0 x1 x2 x3 x4 x5 x6) (biasArr (relRow x7)) b h t d = val_main_v107 (F := Ideal) x0 x1 x2 x3 x4 x5 x6 x7 (ix3 b t n) := by
  have hd := d.isLt
  have e1 : (⟨n.val / 128, by omega⟩ : Fin 16) = h := Fin.ext (by show n.val / 128 = h.val; omega)
  have e2 : (⟨n.val % 128, Nat.mod_lt _ (by decide)⟩ : Fin 128) = d := Fin.ext (by show n.val % 128 = d.val; omega)
  rw [attn_at, e1, e2]
  simp only [weight_at, top_at]
  unfold bandHead bandOut bandWeight
  refine Eq.trans ?_ (softmax_base (fun u : Fin 4096 => val_main_v93 (F := Ideal) x0 x1 x2 x3 x4 x5 x6 x7 (ix4 b h t u)) (fun u => val_main_v30 (F := Ideal) x0 x1 x2 (ix4 b u h d))
    (fun u => logit_shape x0 x1 x2 x3 x4 x5 x6 x7 b h t u h3 h6 h7) t (logit_self x0 x1 x2 x3 x4 x5 x6 x7 b h t h3 h6 h7) (Real.log 2)⁻¹ rfl
    (bandLogit (headBlk (kvq x0 x1 x2 x3 x4 x5 x6) b ⟨32 + h.val, by omega⟩) (headBlk (kvq x0 x1 x2 x3 x4 x5 x6) b ⟨h.val, by omega⟩) (biasBlk (biasArr (relRow x7)) h) t)
    (fun u => bandLogit_eq x0 x1 x2 x3 x4 x5 x6 x7 b h t u h3 h6 h7 _ _))
  refine congrArg (fun s => Ideal.div s _) (Finset.sum_congr rfl fun u _ => congrArg (· * _) ?_)
  exact kvq_v x0 x1 x2 x3 x4 x5 x6 b h u d (by omega)

/-- The residual, by batch and position. -/
theorem rows_at (n : Fin 2048) (hr : b.val * 4096 + t.val < 32768) : rows x0 (ix2 ⟨b.val * 4096 + t.val, hr⟩ n) = x0 (ix3 b t n) :=
  congrFun (rowOf_rows x0 b t hr) n

/-- The attention's result, by batch and position. -/
theorem flat_at (o : FVec Ideal S8x4096x2048 .bf16) (n : Fin 2048) (hr : b.val * 4096 + t.val < 32768) : flat o (ix2 ⟨b.val * 4096 + t.val, hr⟩ n) = o (ix3 b t n) :=
  congrFun (rowOf_rows o b t hr) n

/-- The attention of all heads, at a column. -/
theorem bandArr_at (A : FVec Ideal S8x4096x6144 .bf16) (T : FVec Ideal S16x768x256 .f32) (n : Fin 2048) :
    bandArr A T (ix3 b t n) = bandHead A T b ⟨n.val / 128, by omega⟩ t ⟨n.val % 128, Nat.mod_lt _ (by decide)⟩ := rfl

/-- The mixer's result, by batch and position. -/
theorem mixArr_at (n : Fin 2048) (hr : b.val * 4096 + t.val < 32768) : mixArr x0 x1 x2 x3 x4 x5 x6 x7 x8 (ix3 b t n)
    = rows x0 (ix2 ⟨b.val * 4096 + t.val, hr⟩ n) + ∑ l : Fin 2048, flat (bandArr (kvq x0 x1 x2 x3 x4 x5 x6) (biasArr (relRow x7))) (ix2 ⟨b.val * 4096 + t.val, hr⟩ l) * x8 (ix3 0 l n) := rfl

include h3 h6 h7 in
/-- The mixer's result, at a token and a column. -/
theorem mixArr_eq (n : Fin 2048) : mixArr x0 x1 x2 x3 x4 x5 x6 x7 x8 (ix3 b t n) = val_main_v110 (F := Ideal) x0 x1 x2 x3 x4 x5 x6 x7 x8 (ix3 b t n) := by
  have hr : b.val * 4096 + t.val < 32768 := by omega
  rw [out_at, mixArr_at x0 x1 x2 x3 x4 x5 x6 x7 x8 b t n hr, rows_at]
  refine congrArg (_ + ·) (Finset.sum_congr rfl fun l _ => congrArg (· * _) ?_)
  rw [flat_at, bandArr_at]
  exact bandHead_eq x0 x1 x2 x3 x4 x5 x6 x7 b _ t _ h3 h6 h7 l (by show l.val = l.val / 128 * 128 + l.val % 128; omega)
end

end Cert.KernelIdeal.Mixer
-- ==== Proof.Proj3.lean ====
/- The first layer's projection: what the kernel's body leaves in its two blocks, what the grid leaves in the two results, and that
   these are the reference's terms. -/
module

public import proofs.«01_k».proof.Proof.Real
public import proofs.«01_k».proof.Defs
public import proofs.«01_k».proof.Proof.Gen.Kernel3Ideal.Value
public import proofs.«01_k».proof.Proof.Gen.Reference3Ideal.Read
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Forms

/-- The scale of the query heads' gain. -/
def qScale : EReal := Named.named (F := Ideal) Cert.Kernel3Ideal.κ "q_scale" (φ := .f32) 0x3E0293EE#32

/-- A row of an array of 2048 columns. -/
def rowOf {R : ℕ} (X : FVec Ideal ⟨2, ![R, 2048]⟩ .f32) (r : Fin R) : Fin 2048 → EReal := fun l => X (ix2 r l)

/-- A normed row. -/
def rowNorm (x : Fin 2048 → EReal) (G : FVec Ideal S1x2048 .f32) : Fin 2048 → EReal := norm x (fun l => G (ix2 0 l))

/-- 2048 columns, from column `o` on, of the normed row's product with the weights. -/
def rowPart (x : Fin 2048 → EReal) (G : FVec Ideal S1x2048 .f32) (W : FVec Ideal S2048x6144 .bf16) (o : ℕ) (ho : o ≤ 4096) (i : Fin 2048) : EReal :=
  ∑ l : Fin 2048, rowNorm x G l * W (ix2 l ⟨o + i.val, by omega⟩)

/-- The normed row's product with the gates' weights. -/
def rowGate (x : Fin 2048 → EReal) (G : FVec Ideal S1x2048 .f32) (W : FVec Ideal S2048x128 .bf16) (i : Fin 128) : EReal :=
  ∑ l : Fin 2048, rowNorm x G l * W (ix2 l i)

/-- A row of the projection: query heads, key heads, values. -/
def projRow (y y' v : Fin 2048 → EReal) (g g' : Fin 128 → EReal) (n : Fin 6144) : EReal :=
  if h : n.val < 2048 then headNorm y g ⟨n.val, h⟩
  else if h' : n.val < 4096 then headNorm y' g' ⟨n.val - 2048, by omega⟩
  else v ⟨n.val - 4096, by have := n.isLt; omega⟩

section
variable (y y' v : Fin 2048 → EReal) (g g' : Fin 128 → EReal) (n : Fin 6144) (o O : ℕ) (d : Fin 128)

/-- At the query head from column `o` on. -/
theorem projRow_q (hb : ∀ x : Fin 128, o + x.val < 2048) (h : n.val = o + d.val) (ho : o % 128 = 0) :
    projRow y y' v g g' n = unitRms (Ideal.ofBits .f32 0x43000000#32) (fun d : Fin 128 => y ⟨o + d.val, hb d⟩) d * g d := by
  have := d.isLt; have := hb d
  unfold projRow
  rw [dif_pos (by omega), headNorm_at y g _ (o / 128) d (by show n.val = _; omega)]
  simp only [show o / 128 * 128 = o by omega]

/-- At the first query head. -/
theorem projRow_q0 (hb : ∀ x : Fin 128, x.val < 2048) (h : n.val = d.val) :
    projRow y y' v g g' n = unitRms (Ideal.ofBits .f32 0x43000000#32) (fun d : Fin 128 => y ⟨d.val, hb d⟩) d * g d := by
  rw [projRow_q y y' v g g' n 0 d (fun x => by omega) (by omega) rfl]
  simp only [Nat.zero_add]

/-- At the key head from column `o` on. -/
theorem projRow_k (hb : ∀ x : Fin 128, o + x.val < 2048) (h : n.val = O + d.val) (hO : O = 2048 + o) (ho : o % 128 = 0) :
    projRow y y' v g g' n = unitRms (Ideal.ofBits .f32 0x43000000#32) (fun d : Fin 128 => y' ⟨o + d.val, hb d⟩) d * g' d := by
  have := d.isLt; have := hb d
  unfold projRow
  rw [dif_neg (by omega), dif_pos (by omega), headNorm_at y' g' _ (o / 128) d (by show n.val - 2048 = _; omega)]
  simp only [show o / 128 * 128 = o by omega]

/-- At the first key head. -/
theorem projRow_k0 (hb : ∀ x : Fin 128, x.val < 2048) (h : n.val = 2048 + d.val) :
    projRow y y' v g g' n = unitRms (Ideal.ofBits .f32 0x43000000#32) (fun d : Fin 128 => y' ⟨d.val, hb d⟩) d * g' d := by
  rw [projRow_k y y' v g g' n 0 2048 d (fun x => by omega) (by omega) rfl rfl]
  simp only [Nat.zero_add]

/-- At a value. -/
theorem projRow_v (i : Fin 2048) (h : n.val = 4096 + i.val) : projRow y y' v g g' n = v i := by
  have := i.isLt
  unfold projRow
  rw [dif_neg (by omega), dif_neg (by omega)]
  exact congrArg v (Fin.ext (by show n.val - 4096 = i.val; omega))
end

/-- The heads' gains: the query heads' with its scale, and the key heads'. -/
def qGain (S : FVec Ideal S2x128 .f32) (d : Fin 128) : EReal := S (ix2 0 d) * qScale
def kGain (S : FVec Ideal S2x128 .f32) (d : Fin 128) : EReal := S (ix2 1 d)

variable (m : (ℓ : Loc nD τ sig) → Buf (Elt Ideal) ℓ)

/-- What the body leaves in the gates' block, at a row and a column. -/
theorem gate_out (c : Dev nD) (t : Fin cfg0.N) (r : Fin 512) (n : Fin 128) :
    ((outsAt0 m c t).2 : FVec Ideal S512x128 .f32) (ix2 r n)
      = rowGate (rowOf (iblk m c 0 t : FVec Ideal S512x2048 .f32) r) (iblk m c 1 t) (iblk m c 4 t) n := by
  unfold Gen.outsAt0
  dsimp only
  frame_out
  pointwise [k0_pay5, k0_pay4]
  rfl

/-- What the body leaves in the projection's block, at a row and a column. -/
theorem proj_out (c : Dev nD) (t : Fin cfg0.N) (r : Fin 512) (n : Fin 6144) :
    ((outsAt0 m c t).1 : FVec Ideal S512x6144 .bf16) (ix2 r n)
      = projRow (rowPart (rowOf (iblk m c 0 t : FVec Ideal S512x2048 .f32) r) (iblk m c 1 t) (iblk m c 3 t) 0 (by omega))
          (rowPart (rowOf (iblk m c 0 t : FVec Ideal S512x2048 .f32) r) (iblk m c 1 t) (iblk m c 3 t) 2048 (by omega))
          (rowPart (rowOf (iblk m c 0 t : FVec Ideal S512x2048 .f32) r) (iblk m c 1 t) (iblk m c 3 t) 4096 (by omega))
          (qGain (iblk m c 2 t)) (kGain (iblk m c 2 t)) n := by
  unfold Gen.outsAt0
  dsimp only
  frame_out
  simp only [k0_pay38, k0_pay39]
  generalize hY : k0_pay6 (F := Ideal) _ _ = Y
  generalize hY2 : k0_pay36 (F := Ideal) _ _ = Y2
  generalize hV : k0_pay3 (F := Ideal) _ _ = Vl
  generalize hg : k0_pay7 (F := Ideal) _ = g
  generalize hg2 : k0_pay37 (F := Ideal) _ = g2
  have aY : rowPart (rowOf (iblk m c 0 t : FVec Ideal S512x2048 .f32) r) (iblk m c 1 t) (iblk m c 3 t) 0 (by omega) = fun i => Y (ix2 r i) := funext fun i => by
    rw [← hY]
    pointwise [k0_pay6, k0_pay4]
    unfold rowPart
    simp only [Nat.zero_add]
    rfl
  have aY2 : rowPart (rowOf (iblk m c 0 t : FVec Ideal S512x2048 .f32) r) (iblk m c 1 t) (iblk m c 3 t) 2048 (by omega) = fun i => Y2 (ix2 r i) := funext fun i => by
    rw [← hY2]
    pointwise [k0_pay36, k0_pay4]
    rfl
  have aV : rowPart (rowOf (iblk m c 0 t : FVec Ideal S512x2048 .f32) r) (iblk m c 1 t) (iblk m c 3 t) 4096 (by omega) = fun i => Vl (ix2 r i) := funext fun i => by
    rw [← hV]
    pointwise [k0_pay3, k0_pay4]
    rfl
  have ag : ∀ d : Fin 128, g (ix2 0 d) = (iblk m c 2 t : FVec Ideal S2x128 .f32) (ix2 0 d) := fun d => by
    rw [← hg]
    pointwise [k0_pay7]
  have ag2 : ∀ d : Fin 128, g2 (ix2 0 d) = kGain (iblk m c 2 t) d := fun d => by
    rw [← hg2]
    pointwise [k0_pay37]
    rfl
  generalize hg1 : k0_pay8 (F := Ideal) g _ = g1
  have ag1 : ∀ d : Fin 128, g1 (ix2 0 d) = qGain (iblk m c 2 t) d := fun d => by
    rw [← hg1]
    pointwise [k0_pay8]
    rw [ag]
    rfl
  refine Eq.trans ?_ (congr (congr (congrArg (fun y y' v => projRow y y' v (qGain (iblk m c 2 t)) (kGain (iblk m c 2 t)) n) aY) aY2) aV).symm
  beta_reduce
  clear hY hY2 hV hg hg2 hg1 aY aY2 aV
  canon_tiles x h using (View.cover_of_tiledBy _ ![512, 128] (by sl_kernel_rfl) _)
  case piece0 =>
    obtain ⟨a, b, rfl⟩ : ∃ (a : Fin 512) (b : Fin 2048), x = ix2 a b := ⟨x 0, x 1, eq_ix2 x⟩
    obtain rfl : r = a := Fin.ext h0
    exact (projRow_v _ _ (fun i => Vl (ix2 r i)) _ _ n b h1).symm
  all_goals
    obtain ⟨a, b, rfl⟩ : ∃ (a : Fin 512) (b : Fin 128), x = ix2 a b := ⟨x 0, x 1, eq_ix2 x⟩
    obtain rfl : r = a := Fin.ext h0
    open_payloads
    pointwise
    try simp only [ag, ag1, ag2]
    first
      | exact Eq.symm (projRow_k _ _ _ _ _ n _ _ b (fun x => by omega) h1 (by decide) (by decide))
      | exact Eq.symm (projRow_q _ _ _ _ _ n _ b (fun x => by omega) h1 (by decide))
      | exact Eq.symm (projRow_k0 _ _ _ _ _ n b (fun x => by omega) h1)
      | exact Eq.symm (projRow_q0 _ _ _ _ _ n b (fun x => by omega) (Eq.trans h1 (Nat.zero_add _)))
      | exact Eq.symm (projRow_q0 _ _ _ _ _ n b (fun x => by omega) h1)

/-- The windows' block indices, at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

section
variable (X : FVec Ideal S32768x2048 .f32) (G : FVec Ideal S1x2048 .f32) (W : FVec Ideal S2048x6144 .bf16) (W' : FVec Ideal S2048x128 .bf16)
  (Q K : FVec Ideal S1x128 .f32)

/-- The projection's row of frame `a`. -/
def proj (a : Fin 32768) : Fin 6144 → EReal :=
  projRow (rowPart (rowOf X a) G W 0 (by omega)) (rowPart (rowOf X a) G W 2048 (by omega)) (rowPart (rowOf X a) G W 4096 (by omega))
    (fun d => Q (ix2 0 d) * qScale) (fun d => K (ix2 0 d))

/-- The projection's array. -/
def projArr : FVec Ideal S32768x6144 .bf16 := fun i => proj X G W Q K (i 0) (i 1)

/-- The gates' array. -/
def gateArr : FVec Ideal S32768x128 .f32 := fun i => rowGate (rowOf X (i 0)) G W' (i 1)
end

/-- The input rows of a point's block. -/
theorem blk0 (c : Dev nD) (t : Fin cfg0.N) (r : Fin 512) (hb : t.val * 512 + r.val < 32768) :
    rowOf (iblk m c 0 t : FVec Ideal S512x2048 .f32) r = rowOf (m ((c : Thread nD τ).loc main_arg0) : FVec Ideal S32768x2048 .f32) ⟨t.val * 512 + r.val, hb⟩ := funext fun l => by
  unfold rowOf
  blk_point [iblk, V, idx t]

/-- The norm's gain. -/
theorem blk1 (c : Dev nD) (t : Fin cfg0.N) : (iblk m c 1 t : FVec Ideal S1x2048 .f32) = m ((c : Thread nD τ).loc main_arg1) := funext fun i => by
  obtain ⟨a, l, rfl⟩ : ∃ (a : Fin 1) (l : Fin 2048), i = ix2 a l := ⟨i 0, i 1, eq_ix2 i⟩
  blk_point [iblk, V, idx t]

/-- The heads' gains, as the host stacked them. -/
theorem blk2 (c : Dev nD) (t : Fin cfg0.N) : (iblk m c 2 t : FVec Ideal S2x128 .f32) = V m c main_v6 := funext fun i => by
  blk_point [iblk, idx t]

/-- The query heads' gain. -/
theorem blk2_q (c : Dev nD) (t : Fin cfg0.N) (d : Fin 128) :
    (iblk m c 2 t : FVec Ideal S2x128 .f32) (ix2 0 d) = (m ((c : Thread nD τ).loc main_arg4) : FVec Ideal S1x128 .f32) (ix2 0 d) := by
  rw [blk2]
  unfold Gen.V
  after_results
  pointwise

/-- The key heads' gain. -/
theorem blk2_k (c : Dev nD) (t : Fin cfg0.N) (d : Fin 128) :
    (iblk m c 2 t : FVec Ideal S2x128 .f32) (ix2 1 d) = (m ((c : Thread nD τ).loc main_arg5) : FVec Ideal S1x128 .f32) (ix2 0 d) := by
  rw [blk2]
  unfold Gen.V
  after_results
  pointwise

/-- The projection's weights. -/
theorem blk3 (c : Dev nD) (t : Fin cfg0.N) : (iblk m c 3 t : FVec Ideal S2048x6144 .bf16) = m ((c : Thread nD τ).loc main_arg2) := funext fun i => by
  blk_point [iblk, V, idx t]

/-- The gates' weights. -/
theorem blk4 (c : Dev nD) (t : Fin cfg0.N) : (iblk m c 4 t : FVec Ideal S2048x128 .bf16) = m ((c : Thread nD τ).loc main_arg3) := funext fun i => by
  blk_point [iblk, V, idx t]

/-- The projection's array after the grid. -/
theorem proj_final (c : Dev nD) : ((dats m 0 c).arrAt 5 cfg0.N : FVec Ideal S32768x6144 .bf16)
    = projArr (m ((c : Thread nD τ).loc main_arg0)) (m ((c : Thread nD τ).loc main_arg1)) (m ((c : Thread nD τ).loc main_arg2))
        (m ((c : Thread nD τ).loc main_arg4)) (m ((c : Thread nD τ).loc main_arg5)) := by
  refine (dats m 0 c).arrAt_eq_of_covers 5 _ (by decide +kernel) fun t hf y => ?_
  blk_simp
  rw [after0_5]
  obtain ⟨r, n, rfl⟩ : ∃ (r : Fin 512) (n : Fin 6144), y = ix2 r n := ⟨y 0, y 1, eq_ix2 y⟩
  have ht : t.val < 64 := lt_of_lt_of_eq t.isLt (show cfg0.N = 64 from N_0)
  have hb : t.val * 512 + r.val < 32768 := by have := r.isLt; omega
  have he : ((cfg0.win 5).blk t).view.emb (ix2 r n) = (ix2 (⟨t.val * 512 + r.val, hb⟩ : Fin 32768) n : S32768x6144.Idx) := by
    blk_ext [idx t]
  have eq : qGain (iblk m c 2 t) = fun d => HMul.hMul (α := EReal) ((m ((c : Thread nD τ).loc main_arg4) : FVec Ideal S1x128 .f32) (ix2 0 d)) qScale := funext fun d =>
    congrArg (fun x : EReal => x * qScale) (blk2_q m c t d)
  have ek : kGain (iblk m c 2 t) = fun d => (m ((c : Thread nD τ).loc main_arg5) : FVec Ideal S1x128 .f32) (ix2 0 d) := funext fun d => blk2_k m c t d
  rw [he]
  refine (proj_out m c t r n).trans ?_
  rw [blk0 m c t r hb, blk1, blk3, eq, ek]
  rfl

/-- The gates' array after the grid. -/
theorem gate_final (c : Dev nD) : ((dats m 0 c).arrAt 6 cfg0.N : FVec Ideal S32768x128 .f32)
    = gateArr (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  obtain ⟨r, n, rfl⟩ : ∃ (r : Fin 512) (n : Fin 128), y = ix2 r n := ⟨y 0, y 1, eq_ix2 y⟩
  have ht : t.val < 64 := lt_of_lt_of_eq t.isLt (show cfg0.N = 64 from N_0)
  have hb : t.val * 512 + r.val < 32768 := by have := r.isLt; omega
  have he : ((cfg0.win 6).blk t).view.emb (ix2 r n) = (ix2 (⟨t.val * 512 + r.val, hb⟩ : Fin 32768) n : S32768x128.Idx) := by
    blk_ext [idx t]
  rw [he]
  refine (gate_out m c t r n).trans ?_
  rw [blk0 m c t r hb, blk1, blk4]
  rfl

section
open Cert.Reference3Ideal.Read
variable (X : FVec Ideal S32768x2048 .f32) (G : FVec Ideal S1x2048 .f32) (W : FVec Ideal S2048x6144 .bf16) (W' : FVec Ideal S2048x128 .bf16)
  (Q K : FVec Ideal S1x128 .f32)

/-- The reference's normed row. -/
theorem ref_norm (a : Fin 32768) (l : Fin 2048) : val_main_v13 (F := Ideal) X G (ix2 a l) = rowNorm (rowOf X a) G l := by
  pointwise [val_main_v13, val_main_v12, val_main_v11, val_main_v10, val_main_v9, val_main_v8, val_main_v7, val_main_v6, val_main_v5, val_main_v4, val_main_v3, val_main_v2,
    val_main_v1, val_main_v0, val_main_cst, val_main_cst_0, val_main_cst_1]
  rfl

/-- The reference's gates. -/
theorem ref_gate (a : Fin 32768) (n : Fin 128) : val_main_v59 (F := Ideal) X G W' (ix2 a n) = rowGate (rowOf X a) G W' n := by
  pointwise [val_main_v59, val_main_v58]
  simp only [ref_norm]
  rfl

/-- A column of the reference's product. -/
theorem ref_prod (a : Fin 32768) (n : Fin 6144) : val_main_v15 (F := Ideal) X G W (ix2 a n) = ∑ l : Fin 2048, rowNorm (rowOf X a) G l * W (ix2 l n) := by
  pointwise [val_main_v15, val_main_v14]
  simp only [ref_norm]

/-- A head's query in the reference, with the scale of the logits. -/
theorem ref_q (a : Fin 32768) (h : Fin 16) (d : Fin 128) : val_main_v36 (F := Ideal) X G W Q (ix3 a h d)
    = Ideal.div (unitRms (Ideal.ofBits .f32 0x43000000#32) (fun d : Fin 128 => val_main_v15 (F := Ideal) X G W (ix2 a ⟨h.val * 128 + d.val, by omega⟩)) d * Q (ix2 0 d))
        (Ideal.sqrt (Ideal.ofBits .f32 0x43000000#32) * Ideal.log (Ideal.ofBits .f32 0x40000000#32)) := by
  pointwise [val_main_v36, val_main_v35, val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_cst_2, val_main_cst_3, val_main_cst_4, val_main_cst_5, val_main_cst_6]
  rfl

/-- A head's key in the reference. -/
theorem ref_k (a : Fin 32768) (h : Fin 16) (d : Fin 128) : val_main_v52 (F := Ideal) X G W K (ix3 a h d)
    = unitRms (Ideal.ofBits .f32 0x43000000#32) (fun d : Fin 128 => val_main_v15 (F := Ideal) X G W (ix2 a ⟨2048 + (h.val * 128 + d.val), by omega⟩)) d * K (ix2 0 d) := by
  pointwise [val_main_v52, val_main_v51, val_main_v50, val_main_v49, val_main_v48, val_main_v47, val_main_v46, val_main_v45, val_main_v44, val_main_v43, val_main_v42, val_main_v41,
    val_main_v40, val_main_v39, val_main_v38, val_main_v37, val_main_cst_7, val_main_cst_8, val_main_cst_9]
  rfl

/-- The value of the scale. -/
theorem qScale_eq : qScale = (((Real.sqrt 128)⁻¹ * (Real.log 2)⁻¹ : ℝ) : EReal) := IdealRules.named_const.ideal_named_scalar _ _ _ _ rfl

/-- The pattern of two. -/
theorem ofBits_2 : Ideal.ofBits .f32 0x40000000#32 = ((2 : ℝ) : EReal) := by
  simp [Ideal.ofBits, Ideal.ieee, -EReal.coe_mul]
  norm_num

/-- The scale's inverse, as the reference writes it. -/
theorem scale_div (x : EReal) : Ideal.div x (Ideal.sqrt (Ideal.ofBits .f32 0x43000000#32) * Ideal.log (Ideal.ofBits .f32 0x40000000#32)) = x * qScale := by
  have hs : Real.sqrt 128 ≠ 0 := (Real.sqrt_pos.2 (by norm_num)).ne'
  have hl : Real.log 2 ≠ 0 := (Real.log_pos (by norm_num)).ne'
  rw [ofBits_128, ofBits_2, Ideal.sqrt_coe, if_neg (by norm_num), Ideal.log_coe, if_neg (by norm_num), ← EReal.coe_mul, Ideal.div_coe (mul_ne_zero hs hl), qScale_eq]
  congr 2
  rw [one_div, mul_inv]

/-- The reference's projection at every index. -/
theorem ref_proj (a : Fin 32768) (n : Fin 6144) : val_main_v57 (F := Ideal) X G W Q K (ix2 a n) = projArr X G W Q K (ix2 a n) := by
  have hn := n.isLt
  have e : val_main_v57 (F := Ideal) X G W Q K (ix2 a n)
      = if h : n.val < 2048 then val_main_v36 (F := Ideal) X G W Q (ix3 a ⟨n.val / 128, by omega⟩ ⟨n.val % 128, by omega⟩)
        else if h' : n.val < 4096 then val_main_v52 (F := Ideal) X G W K (ix3 a ⟨(n.val - 2048) / 128, by omega⟩ ⟨(n.val - 2048) % 128, by omega⟩)
        else val_main_v15 (F := Ideal) X G W (ix2 a n) := by
    pointwise [val_main_v57, val_main_v56, val_main_v55, val_main_v54, val_main_v53]
    refine dite_congr rfl (fun _ => rfl) fun h => ?_
    by_cases h' : n.val < 4096
    · rw [dif_pos (by omega), dif_pos h']
    · rw [dif_neg (by omega), dif_neg h']
      exact congrArg (fun i => val_main_v15 (F := Ideal) X G W (ix2 a i)) (Fin.ext (by show 4096 + (n.val - 2048 - 2048) = n.val; omega))
  rw [e]
  show _ = proj X G W Q K a n
  unfold proj projRow
  by_cases h : n.val < 2048
  · rw [dif_pos h, dif_pos h, ref_q, scale_div, mul_assoc]
    unfold headNorm
    simp only [ref_prod]
    unfold rowPart
    simp only [Nat.zero_add]
  · rw [dif_neg h, dif_neg h]
    by_cases h' : n.val < 4096
    · rw [dif_pos h', dif_pos h', ref_k]
      unfold headNorm
      simp only [ref_prod]
      rfl
    · rw [dif_neg h', dif_neg h', ref_prod]
      unfold rowPart
      refine Finset.sum_congr rfl fun l _ => congrArg (fun i => rowNorm (rowOf X a) G l * W (ix2 l i)) (Fin.ext ?_)
      show n.val = 4096 + (n.val - 4096)
      omega

end

end Cert.Kernel3Ideal.Value
-- ==== Proof.Claims.lean ====
/-
  The claims that read the generated frames, the named constants, and the value claims of the mixer, of the MLP and of the first layer's projection.
-/
module

public import proofs.«01_k».proof.Proof.Mlp
public import proofs.«01_k».proof.Proof.Run
public import proofs.«01_k».proof.Proof.Mixer
public import proofs.«01_k».proof.Proof.Proj3
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import Idealize.ShloMosaic.Lib.Quiescent

@[expose] public section

noncomputable section

open Idealize.ShloMosaic Idealize.ShloMosaic.TcCoe Idealize.SL.Sem

namespace Cert.Proof

/-- The mixer runs, keeps its arguments and ends with every semaphore at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference of the mixer. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The MLP runs, keeps its arguments and ends with every semaphore at zero. -/
theorem frame_kernel2 : Cert.quiescent_Kernel2 := fun m ρ _ => Cert.Kernel2.Gen.frame m ρ

/-- So does its idealization. -/
theorem frame_kernel2Ideal : Cert.quiescent_Kernel2Ideal := fun m ρ _ => Cert.Kernel2Ideal.Gen.frame m ρ

/-- So does the reference of the MLP. -/
theorem frame_reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Both named constants of the mixer have the values the table gives them. -/
theorem preserves_kernel : Cert.preserves_Kernel_KernelIdeal :=
  ⟨IdealRules.named_const.statement Cert.KernelIdeal.κ "q_scale" .f32 0x3E0293EE#32 _ rfl,
    IdealRules.named_const.statement Cert.KernelIdeal.κ "log2e" .f32 0x3FB8AA3B#32 _ rfl⟩

/-- The shapes of the precondition's broadcasts. -/
instance finite_facts : Cert.Pre_finite_terms.Facts := ⟨by decide, by decide, by decide⟩

/-- Under the precondition the mixer runs, keeps its arguments and ends with every semaphore at zero. -/
theorem frame_kernelIdeal_pre : Cert.quiescent_KernelIdeal_pre_finite_terms := fun m ρ _ => Cert.KernelIdeal.Gen.frame m ρ

/-- So does its reference. -/
theorem frame_referenceIdeal_pre : Cert.quiescent_ReferenceIdeal_pre_finite_terms := fun m ρ _ => frame_referenceIdeal m ρ trivial

/-- The precondition says that both head gains and the relative biases are real. -/
theorem finite_real (m : (ℓ : Loc Cert.KernelIdeal.nD Cert.KernelIdeal.τ Cert.KernelIdeal.sig) → Buf (Elt Ideal) ℓ)
    (h : Cert.Pre_KernelIdeal_finite_terms m) (c : Dev Cert.KernelIdeal.nD) :
    (∀ i, Cert.Forms.IsReal ((m ((c : Thread Cert.KernelIdeal.nD Cert.KernelIdeal.τ).loc Cert.KernelIdeal.main_arg3) : FVec Ideal Cert.KernelIdeal.S128 .f32) i))
    ∧ (∀ i, Cert.Forms.IsReal ((m ((c : Thread Cert.KernelIdeal.nD Cert.KernelIdeal.τ).loc Cert.KernelIdeal.main_arg6) : FVec Ideal Cert.KernelIdeal.S1x128 .f32) i))
    ∧ (∀ i, Cert.Forms.IsReal ((m ((c : Thread Cert.KernelIdeal.nD Cert.KernelIdeal.τ).loc Cert.KernelIdeal.main_arg7) : FVec Ideal Cert.KernelIdeal.S1x16x320 .f32) i)) :=
  ⟨fun i => Cert.Forms.real_of_lt_inf _ (congrFun (h c).1 i), fun i => Cert.Forms.real_of_lt_inf _ (congrFun (h c).2.1 i),
    fun i => Cert.Forms.real_of_lt_inf _ (congrFun (h c).2.2 i)⟩

/-- The mixer's result and its reference's are equal at every index, where the head gains and the relative biases are finite: the attention over a window
    of the band, to the base two, is the masked softmax over all keys. -/
theorem algebraic_mixer : Cert.algebraic_KernelIdeal_ReferenceIdeal_pre_finite_terms := by
  intro m ρ m' ρ' hpre hagree
  refine ⟨_, Cert.KernelIdeal.Mixer.run m ρ, ?_⟩
  refine (θ_run Cert.ReferenceIdeal.defs _ _).mono (fun _ h c => ⟨(h c).1.trans ?_, (h c).2⟩)
    (Cert.ReferenceIdeal.Value.run (F := Ideal) m' ρ')
  obtain ⟨h3, h6, h7⟩ := finite_real m hpre c
  rw [Cert.ReferenceIdeal.Read.val_main_v110_eq m' c, (hagree c).1, (hagree c).2.1, (hagree c).2.2.1, (hagree c).2.2.2.1, (hagree c).2.2.2.2.1, (hagree c).2.2.2.2.2.1, (hagree c).2.2.2.2.2.2.1,
    (hagree c).2.2.2.2.2.2.2.1, (hagree c).2.2.2.2.2.2.2.2, Cert.KernelIdeal.Mixer.at_v37]
  funext i
  rw [eq_ix3 i]
  exact (Cert.KernelIdeal.Mixer.mixArr_eq _ _ _ _ _ _ _ _ _ _ _ h3 h6 h7 _).symm

/-- The MLP's result and its reference's are equal at every index: the sum over the hidden units in four slabs is the whole sum. -/
theorem algebraic_mlp : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨(h c).1.trans ?_, (h c).2⟩)
    (Cert.Reference2Ideal.Value.run (F := Ideal) m' ρ')
  rw [(hagree c).1, (hagree c).2.1, (hagree c).2.2.1, (hagree c).2.2.2]
  refine (Cert.Reference2Ideal.Read.val_main_v23_eq _ _ _ _).trans (funext fun i => ?_)
  rw [eq_ix2 i]
  exact (Cert.Kernel2Ideal.Value.ref_at _ _ _ _ _ _).trans (Cert.Kernel2Ideal.Value.final_at m c _ _).symm

/-- The first layer's projection runs, keeps its arguments and ends with every semaphore at zero. -/
theorem frame_kernel3 : Cert.quiescent_Kernel3 := fun m ρ _ => Cert.Kernel3.Gen.frame m ρ

/-- So does its idealization. -/
theorem frame_kernel3Ideal : Cert.quiescent_Kernel3Ideal := fun m ρ _ => Cert.Kernel3Ideal.Gen.frame m ρ

/-- So does the reference of the projection. -/
theorem frame_reference3Ideal : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The projection's named constant has the value the table gives it. -/
theorem preserves_kernel3 : Cert.preserves_Kernel3_Kernel3Ideal :=
  IdealRules.named_const.statement Cert.Kernel3Ideal.κ "q_scale" .f32 0x3E0293EE#32 _ rfl

/-- Both results of the first layer's projection are equal to the reference's at every index: the scale on the query heads' gain is the
    division of the queries by the root of 128 and the logarithm of two. -/
theorem algebraic_proj : Cert.algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  · rw [Cert.Reference3Ideal.Read.val_main_v57_eq m' c, (hagree c).1, (hagree c).2.1, (hagree c).2.2.1, (hagree c).2.2.2.2.1, (hagree c).2.2.2.2.2]
    refine Eq.trans (funext fun i => ?_) (Cert.Kernel3Ideal.Value.proj_final m c).symm
    rw [eq_ix2 i]
    exact Cert.Kernel3Ideal.Value.ref_proj _ _ _ _ _ _ _
  · rw [(hagree c).1, (hagree c).2.1, (hagree c).2.2.2.1]
    refine (Cert.Reference3Ideal.Read.val_main_v59_eq _ _ _).trans (Eq.trans (funext fun i => ?_) (Cert.Kernel3Ideal.Value.gate_final m c).symm)
    rw [eq_ix2 i]
    exact Cert.Kernel3Ideal.Value.ref_gate _ _ _ _ _

/-- The gate sums with the forgetting attention run, keep their arguments and end with every semaphore at zero. -/
theorem frame_kernel4 : Cert.quiescent_Kernel4 := fun m ρ _ => Cert.Kernel4.Gen.frame m ρ

/-- So does their idealization. -/
theorem frame_kernel4Ideal : Cert.quiescent_Kernel4Ideal := fun m ρ _ => Cert.Kernel4Ideal.Gen.frame m ρ

/-- So does the reference of the forgetting attention. -/
theorem frame_reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The named constant of the gate sums has the value the table gives it. -/
theorem preserves_kernel4 : Cert.preserves_Kernel4_Kernel4Ideal :=
  IdealRules.named_const.statement Cert.Kernel4Ideal.κ "log2e" .f32 0x3FB8AA3B#32 _ rfl

end Cert.Proof

end
-- ==== Proof.lean ====
/-
  The certificate's claims, joined.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, finite_facts,
  frame_kernel, frame_kernelIdeal, frame_kernelIdeal_pre, frame_referenceIdeal, frame_referenceIdeal_pre, frame_kernel2, frame_kernel2Ideal, frame_reference2Ideal,
  frame_kernel3, frame_kernel3Ideal, frame_reference3Ideal,
  frame_kernel4, frame_kernel4Ideal, frame_reference4Ideal,
  preserves_kernel, algebraic_mixer, trivial, algebraic_mlp, preserves_kernel3, algebraic_proj, preserves_kernel4⟩

end Cert.Proof

end
